-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_bounded_labels_in_range [hPre_rows_bounded_labels_in_range : Cert.Pre_rows_bounded_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_bounded_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_bounded_labels_in_range [hPre_rows_bounded_labels_in_range : Cert.Pre_rows_bounded_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_bounded_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_rows_bounded_labels_in_range [hKernelIdeal : Cert.KernelIdeal.Facts] [hPre_rows_bounded_labels_in_range : Cert.Pre_rows_bounded_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_bounded_labels_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_rows_bounded_labels_in_range [hReferenceIdeal : Cert.ReferenceIdeal.Facts] [hPre_rows_bounded_labels_in_range : Cert.Pre_rows_bounded_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_bounded_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_rows_bounded_labels_in_range [hKernelIdeal : Cert.KernelIdeal.Facts] [hReferenceIdeal : Cert.ReferenceIdeal.Facts] [hPre_rows_bounded_labels_in_range : Cert.Pre_rows_bounded_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_bounded_labels_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_rows_bounded_labels_in_range : Cert.Pre_rows_bounded_labels_in_range.Facts),
    quiescent_Kernel (hKernel := hKernel)
    ∧ quiescent_KernelIdeal (hKernelIdeal := hKernelIdeal)
    ∧ quiescent_KernelIdeal_pre_rows_bounded_labels_in_range (hKernelIdeal := hKernelIdeal) (hPre_rows_bounded_labels_in_range := hPre_rows_bounded_labels_in_range)
    ∧ quiescent_ReferenceIdeal (hReferenceIdeal := hReferenceIdeal)
    ∧ quiescent_ReferenceIdeal_pre_rows_bounded_labels_in_range (hReferenceIdeal := hReferenceIdeal) (hPre_rows_bounded_labels_in_range := hPre_rows_bounded_labels_in_range)
    ∧ preserves_Kernel_KernelIdeal
    ∧ algebraic_KernelIdeal_ReferenceIdeal_pre_rows_bounded_labels_in_range (hKernelIdeal := hKernelIdeal) (hReferenceIdeal := hReferenceIdeal) (hPre_rows_bounded_labels_in_range := hPre_rows_bounded_labels_in_range)
-- ==== Pre_rows_bounded_labels_in_range.lean ====
abbrev S1048576x4 : Shape := ⟨2, ![1048576, 4]⟩
abbrev S1048576 : Shape := ⟨1, ![1048576]⟩
abbrev S4x4 : Shape := ⟨2, ![4, 4]⟩
abbrev S_ : Shape := ⟨0, ![]⟩

class Facts : Prop where
  reducesTo_S1048576x4_S1048576_d1 : S1048576x4.ReducesTo [1] S1048576
  h_S_ : 0 < S_.numel
  bcast_S_S1048576 : S_.BroadcastsInDim S1048576 (![] : Fin 0 → Fin S1048576.rank)
  reducesTo_S1048576_S_d0 : S1048576.ReducesTo [0] S_

variable [Facts]

def fn {F : FTy → Type} [FloatOps F] (main_arg0 : FVec F S1048576x4 .f32) (main_arg1 : IVec S1048576 32) (main_arg2 : FVec F S4x4 .f32) : IVec S_ 1 :=
  let main_cst : FVec F S_ .f32 := constant S_ .f32 0xFF800000#32
  let main_v0 : FVec F S1048576 .f32 := (fun x v => Host.reduce FloatOps.maximumf x v reducesTo_S1048576x4_S1048576_d1 h_S_) main_arg0 main_cst
  let main_cst_0 : FVec F S_ .f32 := constant S_ .f32 0x7F800000#32
  let main_v1 : FVec F S1048576 .f32 := broadcastInDim S1048576 ![] bcast_S_S1048576 main_cst_0
  let main_v2 : IVec S1048576 1 := cmpf .olt main_v0 main_v1
  let main_cst_1 : FVec F S_ .f32 := constant S_ .f32 0xFF800000#32
  let main_v3 : FVec F S1048576 .f32 := broadcastInDim S1048576 ![] bcast_S_S1048576 main_cst_1
  let main_v4 : IVec S1048576 1 := cmpf .ogt main_v0 main_v3
  let main_v5 : IVec S1048576 1 := andi main_v2 main_v4
  let main_c : IVec S_ 1 := constantI S_ 1 1#1
  let main_v6 : IVec S_ 1 := (fun x v => Host.reduce IntOp.andi x v reducesTo_S1048576_S_d0 h_S_) main_v5 main_c
  let main_c_2 : IVec S_ 32 := constantI S_ 32 0#32
  let main_v7 : IVec S1048576 32 := broadcastInDim S1048576 ![] bcast_S_S1048576 main_c_2
  let main_v8 : IVec S1048576 1 := cmpi .sge main_arg1 main_v7
  let main_c_3 : IVec S_ 32 := constantI S_ 32 4#32
  let main_v9 : IVec S1048576 32 := broadcastInDim S1048576 ![] bcast_S_S1048576 main_c_3
  let main_v10 : IVec S1048576 1 := cmpi .slt main_arg1 main_v9
  let main_v11 : IVec S1048576 1 := andi main_v8 main_v10
  let main_c_4 : IVec S_ 1 := constantI S_ 1 1#1
  let main_v12 : IVec S_ 1 := (fun x v => Host.reduce IntOp.andi x v reducesTo_S1048576_S_d0 h_S_) main_v11 main_c_4
  let main_v13 : IVec S_ 1 := andi main_v6 main_v12
  main_v13
-- ==== Kernel.lean ====
abbrev S1048576x4 : Shape := ⟨2, ![1048576, 4]⟩
abbrev S1048576 : Shape := ⟨1, ![1048576]⟩
abbrev S4x4 : Shape := ⟨2, ![4, 4]⟩
abbrev S8192x128x4 : Shape := ⟨3, ![8192, 128, 4]⟩
abbrev S4x8192x128 : Shape := ⟨3, ![4, 8192, 128]⟩
abbrev S8192x128 : Shape := ⟨2, ![8192, 128]⟩
abbrev S1x16 : Shape := ⟨2, ![1, 16]⟩
abbrev S1x1 : Shape := ⟨2, ![1, 1]⟩
abbrev S4x1024x128 : Shape := ⟨3, ![4, 1024, 128]⟩
abbrev S1024x128 : Shape := ⟨2, ![1024, 128]⟩
abbrev S1x1024x128 : Shape := ⟨3, ![1, 1024, 128]⟩
abbrev S1 : Shape := ⟨1, ![1]⟩
abbrev S1x1x1 : Shape := ⟨3, ![1, 1, 1]⟩
abbrev S1x1x16 : Shape := ⟨3, ![1, 1, 16]⟩
abbrev S_ : Shape := ⟨0, ![]⟩

abbrev nBuf : Space → Nat
  | .hbm => 11
  | .vmem => 8
  | .smem => 0
  | _ => 0

abbrev bufTy : (tb : Table) → Fin (tcTables nBuf tb) → BufTy
  | .hbm, ⟨0, _⟩ => ⟨S1048576x4, .f32⟩
  | .hbm, ⟨1, _⟩ => ⟨S1048576, .i32⟩
  | .hbm, ⟨2, _⟩ => ⟨S4x4, .f32⟩
  | .hbm, ⟨3, _⟩ => ⟨S8192x128x4, .f32⟩
  | .hbm, ⟨4, _⟩ => ⟨S4x8192x128, .f32⟩
  | .hbm, ⟨5, _⟩ => ⟨S8192x128, .i32⟩
  | .hbm, ⟨6, _⟩ => ⟨S1x16, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S4x1024x128, .f32⟩
  | .local _ .vmem, ⟨1, _⟩ => ⟨S4x1024x128, .f32⟩
  | .local _ .vmem, ⟨2, _⟩ => ⟨S1024x128, .i32⟩
  | .local _ .vmem, ⟨3, _⟩ => ⟨S1024x128, .i32⟩
  | .local _ .vmem, ⟨4, _⟩ => ⟨S1x16, .f32⟩
  | .local _ .vmem, ⟨5, _⟩ => ⟨S1x1, .f32⟩
  | .local _ .vmem, ⟨6, _⟩ => ⟨S4x1024x128, .f32⟩
  | .local _ .vmem, ⟨7, _⟩ => ⟨S4x1024x128, .i32⟩
  | _, _ => ⟨S1048576x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v115 : BitVec 1 := Scalar.cmpi .eq arg0 c7_i32
  let v116 : BitVec 32 := Scalar.extui v115
  let c0_i32_65 : BitVec 32 := 0#32
  let v117 : BitVec 1 := Scalar.cmpi .ne v116 c0_i32_65
  v117

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S1048576x4 : Shape := ⟨2, ![1048576, 4]⟩
abbrev S1048576 : Shape := ⟨1, ![1048576]⟩
abbrev S4x4 : Shape := ⟨2, ![4, 4]⟩
abbrev S_ : Shape := ⟨0, ![]⟩
abbrev S1048576x1 : Shape := ⟨2, ![1048576, 1]⟩
abbrev S1048576x2 : Shape := ⟨2, ![1048576, 2]⟩
abbrev S4 : Shape := ⟨1, ![4]⟩
abbrev S4x1 : Shape := ⟨2, ![4, 1]⟩
abbrev S4x2 : Shape := ⟨2, ![4, 2]⟩
abbrev S1048576x1x1 : Shape := ⟨3, ![1048576, 1, 1]⟩
abbrev S1 : Shape := ⟨1, ![1]⟩
abbrev S1x1x1 : Shape := ⟨3, ![1, 1, 1]⟩

abbrev nBuf : Space → Nat
  | .hbm => 126
  | .vmem => 0
  | .smem => 0
  | _ => 0

abbrev bufTy : (tb : Table) → Fin (tcTables nBuf tb) → BufTy
  | .hbm, ⟨0, _⟩ => ⟨S1048576x4, .f32⟩
  | .hbm, ⟨1, _⟩ => ⟨S1048576, .i32⟩
  | .hbm, ⟨2, _⟩ => ⟨S4x4, .f32⟩
  | .hbm, ⟨3, _⟩ => ⟨S1048576x4, .i32⟩
  | .hbm, ⟨4, _⟩ => ⟨S_, .f32⟩
  | .hbm, ⟨5, _⟩ => ⟨S_, .i32⟩
  | .hbm, ⟨6, _⟩ => ⟨S1048576, .f32⟩
  | .hbm, ⟨7, _⟩ => ⟨S1048576, .i32⟩
  | .hbm, ⟨8, _⟩ => ⟨S_, .i32⟩
  | .hbm, ⟨9, _⟩ => ⟨S1048576, .i32⟩
  | .hbm, ⟨10, _⟩ => ⟨S1048576, .i1⟩
  | .hbm, ⟨11, _⟩ => ⟨S1048576, .f32⟩
  | .hbm, ⟨12, _⟩ => ⟨S_, .f32⟩
  | .hbm, ⟨13, _⟩ => ⟨S4x4, .f32⟩
  | .hbm, ⟨14, _⟩ => ⟨S_, .i32⟩
  | .hbm, ⟨15, _⟩ => ⟨S1048576, .i32⟩
  | .hbm, ⟨16, _⟩ => ⟨S1048576, .i1⟩
  | .hbm, ⟨17, _⟩ => ⟨S_, .i32⟩
  | .hbm, ⟨18, _⟩ => ⟨S1048576, .i32⟩
  | .hbm, ⟨19, _⟩ => ⟨S1048576, .i32⟩
  | .hbm, ⟨20, _⟩ => ⟨S1048576, .i32⟩
  | .hbm, ⟨21, _⟩ => ⟨S_, .i32⟩
  | .hbm, ⟨22, _⟩ => ⟨S1048576, .i32⟩
  | .hbm, ⟨23, _⟩ => ⟨S1048576, .i1⟩
  | .hbm, ⟨24, _⟩ => ⟨S_, .i32⟩
  | .hbm, ⟨25, _⟩ => ⟨S1048576, .i32⟩
  | .hbm, ⟨26, _⟩ => ⟨S1048576, .i32⟩
  | .hbm, ⟨27, _⟩ => ⟨S1048576, .i32⟩
  | .hbm, ⟨28, _⟩ => ⟨S1048576x1, .i32⟩
  | .hbm, ⟨29, _⟩ => ⟨S1048576x1, .i32⟩
  | .hbm, ⟨30, _⟩ => ⟨S1048576x2, .i32⟩
  | .hbm, ⟨31, _⟩ => ⟨S4x4, .f32⟩
  | .hbm, ⟨32, _⟩ => ⟨S_, .f32⟩
  | .hbm, ⟨33, _⟩ => ⟨S4x4, .f32⟩
  | .hbm, ⟨34, _⟩ => ⟨S4x4, .f32⟩
  | .hbm, ⟨35, _⟩ => ⟨S_, .f32⟩
  | .hbm, ⟨36, _⟩ => ⟨S4x4, .f32⟩
  | .hbm, ⟨37, _⟩ => ⟨S4x4, .f32⟩
  | .hbm, ⟨38, _⟩ => ⟨S4x4, .f32⟩
  | .hbm, ⟨39, _⟩ => ⟨S4, .i32⟩
  | .hbm, ⟨40, _⟩ => ⟨S4, .i32⟩
  | .hbm, ⟨41, _⟩ => ⟨S_, .i32⟩
  | .hbm, ⟨42, _⟩ => ⟨S4, .i32⟩
  | .hbm, ⟨43, _⟩ => ⟨S4, .i1⟩
  | .hbm, ⟨44, _⟩ => ⟨S_, .i32⟩
  | .hbm, ⟨45, _⟩ => ⟨S4, .i32⟩
  | .hbm, ⟨46, _⟩ => ⟨S4, .i32⟩
  | .hbm, ⟨47, _⟩ => ⟨S4, .i32⟩
  | .hbm, ⟨48, _⟩ => ⟨S_, .i32⟩
  | .hbm, ⟨49, _⟩ => ⟨S4, .i32⟩
  | .hbm, ⟨50, _⟩ => ⟨S4, .i1⟩
  | .hbm, ⟨51, _⟩ => ⟨S_, .i32⟩
  | .hbm, ⟨52, _⟩ => ⟨S4, .i32⟩
  | .hbm, ⟨53, _⟩ => ⟨S4, .i32⟩
  | .hbm, ⟨54, _⟩ => ⟨S4, .i32⟩
  | .hbm, ⟨55, _⟩ => ⟨S4x1, .i32⟩
  | .hbm, ⟨56, _⟩ => ⟨S4x1, .i32⟩
  | .hbm, ⟨57, _⟩ => ⟨S4x2, .i32⟩
  | .hbm, ⟨58, _⟩ => ⟨S4, .f32⟩
  | .hbm, ⟨59, _⟩ => ⟨S_, .f32⟩
  | .hbm, ⟨60, _⟩ => ⟨S4, .f32⟩
  | .hbm, ⟨61, _⟩ => ⟨S4, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S4, .f32⟩
  | .hbm, ⟨66, _⟩ => ⟨S4, .f32⟩
  | .hbm, ⟨67, _⟩ => ⟨S4, .f32⟩
  | .hbm, ⟨68, _⟩ => ⟨S4, .f32⟩
  | .hbm, ⟨69, _⟩ => ⟨S_, .f32⟩
  | .hbm, ⟨70, _⟩ => ⟨S4, .f32⟩
  | .hbm, ⟨71, _⟩ => ⟨S4, .f32⟩
  | .hbm, ⟨72, _⟩ => ⟨S_, .i32⟩
  | .hbm, ⟨73, _⟩ => ⟨S1048576, .i32⟩
  | .hbm, ⟨74, _⟩ => ⟨S1048576, .i1⟩
  | .hbm, ⟨75, _⟩ => ⟨S_, .i32⟩
  | .hbm, ⟨76, _⟩ => ⟨S1048576, .i32⟩
  | .hbm, ⟨77, _⟩ => ⟨S1048576, .i32⟩
  | .hbm, ⟨78, _⟩ => ⟨S1048576, .i32⟩
  | .hbm, ⟨79, _⟩ => ⟨S1048576x1, .i32⟩
  | .hbm, ⟨80, _⟩ => ⟨S1048576, .f32⟩
  | .hbm, ⟨81, _⟩ => ⟨S_, .f32⟩
  | .hbm, ⟨82, _⟩ => ⟨S1048576, .f32⟩
  | .hbm, ⟨83, _⟩ => ⟨S_, .f32⟩
  | .hbm, ⟨84, _⟩ => ⟨S1048576, .f32⟩
  | .hbm, ⟨85, _⟩ => ⟨S1048576, .f32⟩
  | .hbm, ⟨86, _⟩ => ⟨S1048576x1, .f32⟩
  | .hbm, ⟨87, _⟩ => ⟨S1048576x4, .f32⟩
  | .hbm, ⟨88, _⟩ => ⟨S1048576x4, .f32⟩
  | .hbm, ⟨89, _⟩ => ⟨S1048576x4, .f32⟩
  | .hbm, ⟨90, _⟩ => ⟨S_, .f32⟩
  | .hbm, ⟨91, _⟩ => ⟨S1048576, .f32⟩
  | .hbm, ⟨92, _⟩ => ⟨S1048576x1, .f32⟩
  | .hbm, ⟨93, _⟩ => ⟨S1048576x1, .f32⟩
  | .hbm, ⟨94, _⟩ => ⟨S1048576x4, .f32⟩
  | .hbm, ⟨95, _⟩ => ⟨S1048576x4, .f32⟩
  | .hbm, ⟨96, _⟩ => ⟨S1048576x1, .i32⟩
  | .hbm, ⟨97, _⟩ => ⟨S_, .i32⟩
  | .hbm, ⟨98, _⟩ => ⟨S1048576x1, .i32⟩
  | .hbm, ⟨99, _⟩ => ⟨S1048576x1, .i1⟩
  | .hbm, ⟨100, _⟩ => ⟨S_, .i32⟩
  | .hbm, ⟨101, _⟩ => ⟨S1048576x1, .i32⟩
  | .hbm, ⟨102, _⟩ => ⟨S1048576x1, .i32⟩
  | .hbm, ⟨103, _⟩ => ⟨S1048576x1, .i32⟩
  | .hbm, ⟨104, _⟩ => ⟨S1048576x1x1, .i32⟩
  | .hbm, ⟨105, _⟩ => ⟨S1, .i32⟩
  | .hbm, ⟨106, _⟩ => ⟨S_, .i32⟩
  | .hbm, ⟨107, _⟩ => ⟨S1048576x1x1, .i32⟩
  | .hbm, ⟨108, _⟩ => ⟨S1048576x1x1, .i1⟩
  | .hbm, ⟨109, _⟩ => ⟨S1x1x1, .i32⟩
  | .hbm, ⟨110, _⟩ => ⟨S1048576x1x1, .i32⟩
  | .hbm, ⟨111, _⟩ => ⟨S1048576x1x1, .i1⟩
  | .hbm, ⟨112, _⟩ => ⟨S1048576x1x1, .i1⟩
  | .hbm, ⟨113, _⟩ => ⟨S_, .i1⟩
  | .hbm, ⟨114, _⟩ => ⟨S1048576x1, .i1⟩
  | .hbm, ⟨115, _⟩ => ⟨S1048576x1, .f32⟩
  | .hbm, ⟨116, _⟩ => ⟨S_, .f32⟩
  | .hbm, ⟨117, _⟩ => ⟨S1048576x1, .f32⟩
  | .hbm, ⟨118, _⟩ => ⟨S1048576x1, .f32⟩
  | .hbm, ⟨119, _⟩ => ⟨S1048576, .f32⟩
  | .hbm, ⟨120, _⟩ => ⟨S1048576, .f32⟩
  | .hbm, ⟨121, _⟩ => ⟨S1048576, .f32⟩
  | .hbm, ⟨122, _⟩ => ⟨S_, .f32⟩
  | .hbm, ⟨123, _⟩ => ⟨S_, .f32⟩
  | .hbm, ⟨124, _⟩ => ⟨S_, .f32⟩
  | .hbm, ⟨125, _⟩ => ⟨S_, .f32⟩
  | _, _ => ⟨S1048576x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_c : Ref sig .tc := ⟨.hbm, 5, rfl⟩
abbrev main_call0_v1_0 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_6 : Ref sig .tc := ⟨.hbm, 41, rfl⟩
abbrev main_v26 : Ref sig .tc := ⟨.hbm, 42, rfl⟩
abbrev main_v27 : Ref sig .tc := ⟨.hbm, 43, rfl⟩
abbrev main_c_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_8 : Ref sig .tc := ⟨.hbm, 48, rfl⟩
abbrev main_v31 : Ref sig .tc := ⟨.hbm, 49, rfl⟩
abbrev main_v32 : Ref sig .tc := ⟨.hbm, 50, rfl⟩
abbrev main_c_9 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_10 : Ref sig .tc := ⟨.hbm, 59, rfl⟩
abbrev main_v40 : Ref sig .tc := ⟨.hbm, 60, rfl⟩
abbrev main_v41 : Ref sig .tc := ⟨.hbm, 61, rfl⟩
abbrev main_cst_11 : Ref sig .tc := ⟨.hbm, 62, rfl⟩
abbrev main_v42 : Ref sig .tc := ⟨.hbm, 63, rfl⟩
abbrev main_cst_12 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_13 : Ref sig .tc := ⟨.hbm, 69, rfl⟩
abbrev main_v47 : Ref sig .tc := ⟨.hbm, 70, rfl⟩
abbrev main_v48 : Ref sig .tc := ⟨.hbm, 71, rfl⟩
abbrev main_c_14 : Ref sig .tc := ⟨.hbm, 72, rfl⟩
abbrev main_v49 : Ref sig .tc := ⟨.hbm, 73, rfl⟩
abbrev main_v50 : Ref sig .tc := ⟨.hbm, 74, rfl⟩
abbrev main_c_15 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_call1_cst : Ref sig .tc := ⟨.hbm, 81, rfl⟩
abbrev main_call1_v0 : Ref sig .tc := ⟨.hbm, 82, rfl⟩
abbrev main_call1_cst_0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_cst_1 : Ref sig .tc := ⟨.hbm, 90, rfl⟩
abbrev main_call1_v7 : Ref sig .tc := ⟨.hbm, 91, rfl⟩
abbrev main_call1_v8 : Ref sig .tc := ⟨.hbm, 92, rfl⟩
abbrev main_call1_v9 : Ref sig .tc := ⟨.hbm, 93, rfl⟩
abbrev main_call1_v10 : Ref sig .tc := ⟨.hbm, 94, rfl⟩
abbrev main_v56 : Ref sig .tc := ⟨.hbm, 95, rfl⟩
abbrev main_v57 : Ref sig .tc := ⟨.hbm, 96, rfl⟩
abbrev main_call2_c : Ref sig .tc := ⟨.hbm, 97, rfl⟩
abbrev main_call2_v0 : Ref sig .tc := ⟨.hbm, 98, rfl⟩
abbrev main_call2_v1 : Ref sig .tc := ⟨.hbm, 99, rfl⟩
abbrev main_call2_c_0 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_call2_v5 : Ref sig .tc := ⟨.hbm, 104, rfl⟩
abbrev main_call2_c_1 : Ref sig .tc := ⟨.hbm, 105, rfl⟩
abbrev main_call2_c_2 : Ref sig .tc := ⟨.hbm, 106, rfl⟩
abbrev main_call2_v6 : Ref sig .tc := ⟨.hbm, 107, rfl⟩
abbrev main_call2_v7 : Ref sig .tc := ⟨.hbm, 108, rfl⟩
abbrev main_call2_v8 : Ref sig .tc := ⟨.hbm, 109, rfl⟩
abbrev main_call2_v9 : Ref sig .tc := ⟨.hbm, 110, rfl⟩
abbrev main_call2_v10 : Ref sig .tc := ⟨.hbm, 111, rfl⟩
abbrev main_call2_v11 : Ref sig .tc := ⟨.hbm, 112, rfl⟩
abbrev main_call2_c_3 : Ref sig .tc := ⟨.hbm, 113, rfl⟩
abbrev main_call2_v12 : Ref sig .tc := ⟨.hbm, 114, rfl⟩
abbrev main_call2_v13 : Ref sig .tc := ⟨.hbm, 115, rfl⟩
abbrev main_call2_cst : Ref sig .tc := ⟨.hbm, 116, rfl⟩
abbrev main_call2_v14 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_cst_16 : Ref sig .tc := ⟨.hbm, 122, rfl⟩
abbrev main_v62 : Ref sig .tc := ⟨.hbm, 123, rfl⟩
abbrev main_cst_17 : Ref sig .tc := ⟨.hbm, 124, rfl⟩
abbrev main_v63 : Ref sig .tc := ⟨.hbm, 125, rfl⟩

abbrev nD : Nat := 1
abbrev τ : Topo := Topo.v7x

variable {F : FTy → Type} [FloatOps F]
-- ==== Proof.RefRun.lean ====
/- The reference program's run: its host operations in order, and what each result buffer ends holding, stage by stage
   (predicted classes, confusion matrix, smoothed matrix, mistakes, class weights, log-probabilities, loss). -/
module

public import proofs.«01_k».proof.Proof.Gen.ReferenceIdeal
public import Idealize.ShloMosaic.Lib.StableHlo.Run
public import Idealize.ShloMosaic.Lib.Quiescent

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The label column beside the prediction column: one (label, prediction) pair per sample. -/
def joinRows (a b : IVec S1048576x1 32) : IVec S1048576x2 32 :=
  concatenate S1048576x2 1 [⟨S1048576x1, a⟩, ⟨S1048576x1, b⟩] concatenates_S1048576x1_S1048576x1_S1048576x2_d1

/-- Two columns of four class numbers side by side: one (row, column) pair per class. -/
def joinFour (a b : IVec S4x1 32) : IVec S4x2 32 :=
  concatenate S4x2 1 [⟨S4x1, a⟩, ⟨S4x1, b⟩] concatenates_S4x1_S4x1_S4x2_d1

/-- Each row's greatest entry, carried beside its place (the first result of the two-operand reduction). -/
def topAndPlace1 (x : FVec F S1048576x4 .f32) (y : IVec S1048576x4 32) (u : FVec F S_ .f32) (v : IVec S_ 32) : FVec F S1048576 .f32 :=
  fun j => (Host.argReduce reducer_argmax_f32_i32 x y u v reducesTo_S1048576x4_S1048576_d1 h_S_ j).1

/-- The place of each row's greatest entry (the second result of the two-operand reduction). -/
def topAndPlace2 (x : FVec F S1048576x4 .f32) (y : IVec S1048576x4 32) (u : FVec F S_ .f32) (v : IVec S_ 32) : IVec S1048576 32 :=
  fun j => (Host.argReduce reducer_argmax_f32_i32 x y u v reducesTo_S1048576x4_S1048576_d1 h_S_ j).2

/-- The operations of the reference, in order (a called function's operations stand in its call's place). -/
abbrev ops : List (HloOp τ sig (Elt F)) :=
  [ TRef.nullary (TRef.of (T := ⟨S1048576x4, .i32⟩) main_call0_v0) (iotaInDim S1048576x4 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S1048576x4, .f32⟩) main_arg0) (TRef.of (T := ⟨S1048576x4, .i32⟩) main_call0_v0) (TRef.of (T := ⟨S_, .f32⟩) main_call0_cst) (TRef.of (T := ⟨S_, .i32⟩) main_call0_c) (TRef.of (T := ⟨S1048576, .f32⟩) main_call0_v1_0) (topAndPlace1 (F := F)),
    TRef.quaternary (TRef.of (T := ⟨S1048576x4, .f32⟩) main_arg0) (TRef.of (T := ⟨S1048576x4, .i32⟩) main_call0_v0) (TRef.of (T := ⟨S_, .f32⟩) main_call0_cst) (TRef.of (T := ⟨S_, .i32⟩) main_call0_c) (TRef.of (T := ⟨S1048576, .i32⟩) main_v0) (topAndPlace2 (F := F)),
    nullary main_c (constantI S_ 32 4294967196#32),
    unary main_c main_v1 (broadcastInDim S1048576 ![] bcast_S_S1048576 : (⟨S_, .i32⟩ : BufTy).Contents (Elt F) → (⟨S1048576, .i32⟩ : BufTy).Contents (Elt F)),
    binary main_arg1 main_v1 main_v2 (cmpi .ne : (⟨S1048576, .i32⟩ : BufTy).Contents (Elt F) → (⟨S1048576, .i32⟩ : BufTy).Contents (Elt F) → (⟨S1048576, .i1⟩ : BufTy).Contents (Elt F)),
    unary main_v2 main_v3 (uitofp .f32 : (⟨S1048576, .i1⟩ : BufTy).Contents (Elt F) → (⟨S1048576, .f32⟩ : BufTy).Contents (Elt F)),
    nullary main_cst (constant S_ .f32 0x00000000#32),
    unary main_cst main_v4 (broadcastInDim S4x4 ![] bcast_S_S4x4 : (⟨S_, .f32⟩ : BufTy).Contents (Elt F) → (⟨S4x4, .f32⟩ : BufTy).Contents (Elt F)),
    nullary main_c_0 (constantI S_ 32 0#32),
    unary main_c_0 main_v5 (broadcastInDim S1048576 ![] bcast_S_S1048576 : (⟨S_, .i32⟩ : BufTy).Contents (Elt F) → (⟨S1048576, .i32⟩ : BufTy).Contents (Elt F)),
    binary main_arg1 main_v5 main_v6 (cmpi .slt : (⟨S1048576, .i32⟩ : BufTy).Contents (Elt F) → (⟨S1048576, .i32⟩ : BufTy).Contents (Elt F) → (⟨S1048576, .i1⟩ : BufTy).Contents (Elt F)),
    nullary main_c_1 (constantI S_ 32 4#32),
    unary main_c_1 main_v7 (broadcastInDim S1048576 ![] bcast_S_S1048576 : (⟨S_, .i32⟩ : BufTy).Contents (Elt F) → (⟨S1048576, .i32⟩ : BufTy).Contents (Elt F)),
    binary main_arg1 main_v7 main_v8 (addi : (⟨S1048576, .i32⟩ : BufTy).Contents (Elt F) → (⟨S1048576, .i32⟩ : BufTy).Contents (Elt F) → (⟨S1048576, .i32⟩ : BufTy).Contents (Elt F)),
    ternary main_v6 main_v8 main_arg1 main_v9 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    nullary main_c_2 (constantI S_ 32 0#32),
    unary main_c_2 main_v10 (broadcastInDim S1048576 ![] bcast_S_S1048576 : (⟨S_, .i32⟩ : BufTy).Contents (Elt F) → (⟨S1048576, .i32⟩ : BufTy).Contents (Elt F)),
    binary main_v0 main_v10 main_v11 (cmpi .slt : (⟨S1048576, .i32⟩ : BufTy).Contents (Elt F) → (⟨S1048576, .i32⟩ : BufTy).Contents (Elt F) → (⟨S1048576, .i1⟩ : BufTy).Contents (Elt F)),
    nullary main_c_3 (constantI S_ 32 4#32),
    unary main_c_3 main_v12 (broadcastInDim S1048576 ![] bcast_S_S1048576 : (⟨S_, .i32⟩ : BufTy).Contents (Elt F) → (⟨S1048576, .i32⟩ : BufTy).Contents (Elt F)),
    binary main_v0 main_v12 main_v13 (addi : (⟨S1048576, .i32⟩ : BufTy).Contents (Elt F) → (⟨S1048576, .i32⟩ : BufTy).Contents (Elt F) → (⟨S1048576, .i32⟩ : BufTy).Contents (Elt F)),
    ternary main_v11 main_v13 main_v0 main_v14 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v9 main_v15 (broadcastInDim S1048576x1 ![0] bcast_S1048576_S1048576x1_0 : (⟨S1048576, .i32⟩ : BufTy).Contents (Elt F) → (⟨S1048576x1, .i32⟩ : BufTy).Contents (Elt F)),
    unary main_v14 main_v16 (broadcastInDim S1048576x1 ![0] bcast_S1048576_S1048576x1_0 : (⟨S1048576, .i32⟩ : BufTy).Contents (Elt F) → (⟨S1048576x1, .i32⟩ : BufTy).Contents (Elt F)),
    binary main_v15 main_v16 main_v17 joinRows,
    ternary main_v4 main_v17 main_v3 main_v18 ((fun x i u => Host.scatterAdd scatter_S4x4_S1048576x2_S1048576_n_01_01_1 x i u) : (⟨S4x4, .f32⟩ : BufTy).Contents (Elt F) → (⟨S1048576x2, .i32⟩ : BufTy).Contents (Elt F) → (⟨S1048576, .f32⟩ : BufTy).Contents (Elt F) → (⟨S4x4, .f32⟩ : BufTy).Contents (Elt F)),
    nullary main_cst_4 (constant S_ .f32 0x3F4CCCCD#32),
    unary main_cst_4 main_v19 (broadcastInDim S4x4 ![] bcast_S_S4x4 : (⟨S_, .f32⟩ : BufTy).Contents (Elt F) → (⟨S4x4, .f32⟩ : BufTy).Contents (Elt F)),
    binary main_v19 main_v18 main_v20 (mulf : (⟨S4x4, .f32⟩ : BufTy).Contents (Elt F) → (⟨S4x4, .f32⟩ : BufTy).Contents (Elt F) → (⟨S4x4, .f32⟩ : BufTy).Contents (Elt F)),
    nullary main_cst_5 (constant S_ .f32 0x3E4CCCCD#32),
    unary main_cst_5 main_v21 (broadcastInDim S4x4 ![] bcast_S_S4x4 : (⟨S_, .f32⟩ : BufTy).Contents (Elt F) → (⟨S4x4, .f32⟩ : BufTy).Contents (Elt F)),
    binary main_v21 main_arg2 main_v22 (mulf : (⟨S4x4, .f32⟩ : BufTy).Contents (Elt F) → (⟨S4x4, .f32⟩ : BufTy).Contents (Elt F) → (⟨S4x4, .f32⟩ : BufTy).Contents (Elt F)),
    binary main_v20 main_v22 main_v23 (addf : (⟨S4x4, .f32⟩ : BufTy).Contents (Elt F) → (⟨S4x4, .f32⟩ : BufTy).Contents (Elt F) → (⟨S4x4, .f32⟩ : BufTy).Contents (Elt F)),
    nullary main_v24 (iotaInDim S4 32 0),
    nullary main_v25 (iotaInDim S4 32 0),
    nullary main_c_6 (constantI S_ 32 0#32),
    unary main_c_6 main_v26 (broadcastInDim S4 ![] bcast_S_S4 : (⟨S_, .i32⟩ : BufTy).Contents (Elt F) → (⟨S4, .i32⟩ : BufTy).Contents (Elt F)),
    binary main_v24 main_v26 main_v27 (cmpi .slt : (⟨S4, .i32⟩ : BufTy).Contents (Elt F) → (⟨S4, .i32⟩ : BufTy).Contents (Elt F) → (⟨S4, .i1⟩ : BufTy).Contents (Elt F)),
    nullary main_c_7 (constantI S_ 32 4#32),
    unary main_c_7 main_v28 (broadcastInDim S4 ![] bcast_S_S4 : (⟨S_, .i32⟩ : BufTy).Contents (Elt F) → (⟨S4, .i32⟩ : BufTy).Contents (Elt F)),
    binary main_v24 main_v28 main_v29 (addi : (⟨S4, .i32⟩ : BufTy).Contents (Elt F) → (⟨S4, .i32⟩ : BufTy).Contents (Elt F) → (⟨S4, .i32⟩ : BufTy).Contents (Elt F)),
    ternary main_v27 main_v29 main_v24 main_v30 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    nullary main_c_8 (constantI S_ 32 0#32),
    unary main_c_8 main_v31 (broadcastInDim S4 ![] bcast_S_S4 : (⟨S_, .i32⟩ : BufTy).Contents (Elt F) → (⟨S4, .i32⟩ : BufTy).Contents (Elt F)),
    binary main_v25 main_v31 main_v32 (cmpi .slt : (⟨S4, .i32⟩ : BufTy).Contents (Elt F) → (⟨S4, .i32⟩ : BufTy).Contents (Elt F) → (⟨S4, .i1⟩ : BufTy).Contents (Elt F)),
    nullary main_c_9 (constantI S_ 32 4#32),
    unary main_c_9 main_v33 (broadcastInDim S4 ![] bcast_S_S4 : (⟨S_, .i32⟩ : BufTy).Contents (Elt F) → (⟨S4, .i32⟩ : BufTy).Contents (Elt F)),
    binary main_v25 main_v33 main_v34 (addi : (⟨S4, .i32⟩ : BufTy).Contents (Elt F) → (⟨S4, .i32⟩ : BufTy).Contents (Elt F) → (⟨S4, .i32⟩ : BufTy).Contents (Elt F)),
    ternary main_v32 main_v34 main_v25 main_v35 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v30 main_v36 (broadcastInDim S4x1 ![0] bcast_S4_S4x1_0 : (⟨S4, .i32⟩ : BufTy).Contents (Elt F) → (⟨S4x1, .i32⟩ : BufTy).Contents (Elt F)),
    unary main_v35 main_v37 (broadcastInDim S4x1 ![0] bcast_S4_S4x1_0 : (⟨S4, .i32⟩ : BufTy).Contents (Elt F) → (⟨S4x1, .i32⟩ : BufTy).Contents (Elt F)),
    binary main_v36 main_v37 main_v38 joinFour,
    binary main_v23 main_v38 main_v39 ((fun x i => Host.gather gather_S4x4_S4x2_S4_n_01_n_n_01_1_11 x i) : (⟨S4x4, .f32⟩ : BufTy).Contents (Elt F) → (⟨S4x2, .i32⟩ : BufTy).Contents (Elt F) → (⟨S4, .f32⟩ : BufTy).Contents (Elt F)),
    nullary main_cst_10 (constant S_ .f32 0x00000000#32),
    binary main_v23 main_cst_10 main_v40 ((fun x v => Host.reduceAdd x v reducesTo_S4x4_S4_d1 h_S_) : (⟨S4x4, .f32⟩ : BufTy).Contents (Elt F) → (⟨S_, .f32⟩ : BufTy).Contents (Elt F) → (⟨S4, .f32⟩ : BufTy).Contents (Elt F)),
    binary main_v40 main_v39 main_v41 (subf : (⟨S4, .f32⟩ : BufTy).Contents (Elt F) → (⟨S4, .f32⟩ : BufTy).Contents (Elt F) → (⟨S4, .f32⟩ : BufTy).Contents (Elt F)),
    nullary main_cst_11 (constant S_ .f32 0xFF800000#32),
    binary main_v41 main_cst_11 main_v42 ((fun x v => Host.reduce FloatOps.maximumf x v reducesTo_S4_S_d0 h_S_) : (⟨S4, .f32⟩ : BufTy).Contents (Elt F) → (⟨S_, .f32⟩ : BufTy).Contents (Elt F) → (⟨S_, .f32⟩ : BufTy).Contents (Elt F)),
    nullary main_cst_12 (constant S_ .f32 0x358637BD#32),
    unary main_cst_12 main_v43 (broadcastInDim S4 ![] bcast_S_S4 : (⟨S_, .f32⟩ : BufTy).Contents (Elt F) → (⟨S4, .f32⟩ : BufTy).Contents (Elt F)),
    binary main_v41 main_v43 main_v44 (addf : (⟨S4, .f32⟩ : BufTy).Contents (Elt F) → (⟨S4, .f32⟩ : BufTy).Contents (Elt F) → (⟨S4, .f32⟩ : BufTy).Contents (Elt F)),
    unary main_v42 main_v45 (broadcastInDim S4 ![] bcast_S_S4 : (⟨S_, .f32⟩ : BufTy).Contents (Elt F) → (⟨S4, .f32⟩ : BufTy).Contents (Elt F)),
    binary main_v45 main_v44 main_v46 (Host.divf : (⟨S4, .f32⟩ : BufTy).Contents (Elt F) → (⟨S4, .f32⟩ : BufTy).Contents (Elt F) → (⟨S4, .f32⟩ : BufTy).Contents (Elt F)),
    nullary main_cst_13 (constant S_ .f32 0x3F99999A#32),
    unary main_cst_13 main_v47 (broadcastInDim S4 ![] bcast_S_S4 : (⟨S_, .f32⟩ : BufTy).Contents (Elt F) → (⟨S4, .f32⟩ : BufTy).Contents (Elt F)),
    binary main_v46 main_v47 main_v48 (minimumf : (⟨S4, .f32⟩ : BufTy).Contents (Elt F) → (⟨S4, .f32⟩ : BufTy).Contents (Elt F) → (⟨S4, .f32⟩ : BufTy).Contents (Elt F)),
    nullary main_c_14 (constantI S_ 32 0#32),
    unary main_c_14 main_v49 (broadcastInDim S1048576 ![] bcast_S_S1048576 : (⟨S_, .i32⟩ : BufTy).Contents (Elt F) → (⟨S1048576, .i32⟩ : BufTy).Contents (Elt F)),
    binary main_arg1 main_v49 main_v50 (cmpi .slt : (⟨S1048576, .i32⟩ : BufTy).Contents (Elt F) → (⟨S1048576, .i32⟩ : BufTy).Contents (Elt F) → (⟨S1048576, .i1⟩ : BufTy).Contents (Elt F)),
    nullary main_c_15 (constantI S_ 32 4#32),
    unary main_c_15 main_v51 (broadcastInDim S1048576 ![] bcast_S_S1048576 : (⟨S_, .i32⟩ : BufTy).Contents (Elt F) → (⟨S1048576, .i32⟩ : BufTy).Contents (Elt F)),
    binary main_arg1 main_v51 main_v52 (addi : (⟨S1048576, .i32⟩ : BufTy).Contents (Elt F) → (⟨S1048576, .i32⟩ : BufTy).Contents (Elt F) → (⟨S1048576, .i32⟩ : BufTy).Contents (Elt F)),
    ternary main_v50 main_v52 main_arg1 main_v53 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v53 main_v54 (broadcastInDim S1048576x1 ![0] bcast_S1048576_S1048576x1_0 : (⟨S1048576, .i32⟩ : BufTy).Contents (Elt F) → (⟨S1048576x1, .i32⟩ : BufTy).Contents (Elt F)),
    binary main_v48 main_v54 main_v55 ((fun x i => Host.gather gather_S4_S1048576x1_S1048576_n_0_n_n_0_1_1 x i) : (⟨S4, .f32⟩ : BufTy).Contents (Elt F) → (⟨S1048576x1, .i32⟩ : BufTy).Contents (Elt F) → (⟨S1048576, .f32⟩ : BufTy).Contents (Elt F)),
    TRef.nullary (TRef.of (T := ⟨S_, .f32⟩) main_call1_cst) (constant S_ .f32 0xFF800000#32),
    TRef.binary (TRef.of (T := ⟨S1048576x4, .f32⟩) main_arg0) (TRef.of (T := ⟨S_, .f32⟩) main_call1_cst) (TRef.of (T := ⟨S1048576, .f32⟩) main_call1_v0) (fun x v => Host.reduce FloatOps.maximumf x v reducesTo_S1048576x4_S1048576_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S1048576, .f32⟩) main_call1_v1) (broadcastInDim S1048576 ![] bcast_S_S1048576),
    TRef.binary (TRef.of (T := ⟨S1048576, .f32⟩) main_call1_v1) (TRef.of (T := ⟨S1048576, .f32⟩) main_call1_v0) (TRef.of (T := ⟨S1048576, .f32⟩) main_call1_v2) maximumf,
    TRef.unary (TRef.of (T := ⟨S1048576, .f32⟩) main_call1_v2) (TRef.of (T := ⟨S1048576x1, .f32⟩) main_call1_v3) (broadcastInDim S1048576x1 ![0] bcast_S1048576_S1048576x1_0),
    TRef.unary (TRef.of (T := ⟨S1048576x1, .f32⟩) main_call1_v3) (TRef.of (T := ⟨S1048576x4, .f32⟩) main_call1_v4) (broadcastInDim S1048576x4 ![0, 1] bcast_S1048576x1_S1048576x4_0_1),
    TRef.binary (TRef.of (T := ⟨S1048576x4, .f32⟩) main_arg0) (TRef.of (T := ⟨S1048576x4, .f32⟩) main_call1_v4) (TRef.of (T := ⟨S1048576x4, .f32⟩) main_call1_v5) subf,
    TRef.unary (TRef.of (T := ⟨S1048576x4, .f32⟩) main_call1_v5) (TRef.of (T := ⟨S1048576x4, .f32⟩) main_call1_v6) Host.exp,
    TRef.nullary (TRef.of (T := ⟨S_, .f32⟩) main_call1_cst_1) (constant S_ .f32 0x00000000#32),
    TRef.binary (TRef.of (T := ⟨S1048576x4, .f32⟩) main_call1_v6) (TRef.of (T := ⟨S_, .f32⟩) main_call1_cst_1) (TRef.of (T := ⟨S1048576, .f32⟩) main_call1_v7) (fun x v => Host.reduceAdd x v reducesTo_S1048576x4_S1048576_d1 h_S_),
    TRef.unary (TRef.of (T := ⟨S1048576, .f32⟩) main_call1_v7) (TRef.of (T := ⟨S1048576x1, .f32⟩) main_call1_v8) (broadcastInDim S1048576x1 ![0] bcast_S1048576_S1048576x1_0),
    TRef.unary (TRef.of (T := ⟨S1048576x1, .f32⟩) main_call1_v8) (TRef.of (T := ⟨S1048576x1, .f32⟩) main_call1_v9) Host.log,
    TRef.unary (TRef.of (T := ⟨S1048576x1, .f32⟩) main_call1_v9) (TRef.of (T := ⟨S1048576x4, .f32⟩) main_call1_v10) (broadcastInDim S1048576x4 ![0, 1] bcast_S1048576x1_S1048576x4_0_1),
    TRef.binary (TRef.of (T := ⟨S1048576x4, .f32⟩) main_call1_v5) (TRef.of (T := ⟨S1048576x4, .f32⟩) main_call1_v10) (TRef.of (T := ⟨S1048576x4, .f32⟩) main_v56) subf,
    unary main_arg1 main_v57 (broadcastInDim S1048576x1 ![0] bcast_S1048576_S1048576x1_0 : (⟨S1048576, .i32⟩ : BufTy).Contents (Elt F) → (⟨S1048576x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S1048576x1, .i32⟩) main_call2_v0) (broadcastInDim S1048576x1 ![] bcast_S_S1048576x1),
    TRef.binary (TRef.of (T := ⟨S1048576x1, .i32⟩) main_v57) (TRef.of (T := ⟨S1048576x1, .i32⟩) main_call2_v0) (TRef.of (T := ⟨S1048576x1, .i1⟩) main_call2_v1) (cmpi .slt),
    TRef.nullary (TRef.of (T := ⟨S_, .i32⟩) main_call2_c_0) (constantI S_ 32 4#32),
    TRef.unary (TRef.of (T := ⟨S_, .i32⟩) main_call2_c_0) (TRef.of (T := ⟨S1048576x1, .i32⟩) main_call2_v2) (broadcastInDim S1048576x1 ![] bcast_S_S1048576x1),
    TRef.binary (TRef.of (T := ⟨S1048576x1, .i32⟩) main_v57) (TRef.of (T := ⟨S1048576x1, .i32⟩) main_call2_v2) (TRef.of (T := ⟨S1048576x1, .i32⟩) main_call2_v3) addi,
    TRef.ternary (TRef.of (T := ⟨S1048576x1, .i1⟩) main_call2_v1) (TRef.of (T := ⟨S1048576x1, .i32⟩) main_call2_v3) (TRef.of (T := ⟨S1048576x1, .i32⟩) main_v57) (TRef.of (T := ⟨S1048576x1, .i32⟩) main_call2_v4) select,
    TRef.reshape (TRef.of (T := ⟨S1048576x1, .i32⟩) main_call2_v4) (TRef.of (T := ⟨S1048576x1x1, .i32⟩) main_call2_v5) (rfl : (.i32 : EltTy) = .i32) shapeCasts_S1048576x1_S1048576x1x1,
    TRef.nullary (TRef.of (T := ⟨S1, .i32⟩) main_call2_c_1) (constantI S1 32 3#32),
    TRef.nullary (TRef.of (T := ⟨S_, .i32⟩) main_call2_c_2) (constantI S_ 32 0#32),
    TRef.unary (TRef.of (T := ⟨S_, .i32⟩) main_call2_c_2) (TRef.of (T := ⟨S1048576x1x1, .i32⟩) main_call2_v6) (broadcastInDim S1048576x1x1 ![] bcast_S_S1048576x1x1),
    TRef.binary (TRef.of (T := ⟨S1048576x1x1, .i32⟩) main_call2_v5) (TRef.of (T := ⟨S1048576x1x1, .i32⟩) main_call2_v6) (TRef.of (T := ⟨S1048576x1x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S1048576x1x1, .i32⟩) main_call2_v9) (broadcastInDim S1048576x1x1 ![0, 1, 2] bcast_S1x1x1_S1048576x1x1_0_1_2),
    TRef.binary (TRef.of (T := ⟨S1048576x1x1, .i32⟩) main_call2_v5) (TRef.of (T := ⟨S1048576x1x1, .i32⟩) main_call2_v9) (TRef.of (T := ⟨S1048576x1x1, .i1⟩) main_call2_v10) (cmpi .sle),
    TRef.binary (TRef.of (T := ⟨S1048576x1x1, .i1⟩) main_call2_v7) (TRef.of (T := ⟨S1048576x1x1, .i1⟩) main_call2_v10) (TRef.of (T := ⟨S1048576x1x1, .i1⟩) main_call2_v11) andi,
    TRef.nullary (TRef.of (T := ⟨S_, .i1⟩) main_call2_c_3) (constantI S_ 1 1#1),
    TRef.binary (TRef.of (T := ⟨S1048576x1x1, .i1⟩) main_call2_v11) (TRef.of (T := ⟨S_, .i1⟩) main_call2_c_3) (TRef.of (T := ⟨S1048576x1, .i1⟩) main_call2_v12) (fun x v => Host.reduce IntOp.andi x v reducesTo_S1048576x1x1_S1048576x1_d2 h_S_),
    TRef.binary (TRef.of (T := ⟨S1048576x4, .f32⟩) main_v56) (TRef.of (T := ⟨S1048576x1x1, .i32⟩) main_call2_v5) (TRef.of (T := ⟨S1048576x1, .f32⟩) main_call2_v13) (fun x i => Host.gather gather_S1048576x4_S1048576x1x1_S1048576x1_n_1_0_0_1_2_11 x i),
    TRef.nullary (TRef.of (T := ⟨S_, .f32⟩) main_call2_cst) (constant S_ .f32 0x7FC00000#32),
    TRef.unary (TRef.of (T := ⟨S_, .f32⟩) main_call2_cst) (TRef.of (T := ⟨S1048576x1, .f32⟩) main_call2_v14) (broadcastInDim S1048576x1 ![] bcast_S_S1048576x1),
    TRef.ternary (TRef.of (T := ⟨S1048576x1, .i1⟩) main_call2_v12) (TRef.of (T := ⟨S1048576x1, .f32⟩) main_call2_v13) (TRef.of (T := ⟨S1048576x1, .f32⟩) main_call2_v14) (TRef.of (T := ⟨S1048576x1, .f32⟩) main_v58) select,
    reshape main_v58 main_v59 (rfl : (.f32 : EltTy) = .f32) shapeCasts_S1048576x1_S1048576,
    unary main_v59 main_v60 (Host.negf : (⟨S1048576, .f32⟩ : BufTy).Contents (Elt F) → (⟨S1048576, .f32⟩ : BufTy).Contents (Elt F)),
    binary main_v60 main_v55 main_v61 (mulf : (⟨S1048576, .f32⟩ : BufTy).Contents (Elt F) → (⟨S1048576, .f32⟩ : BufTy).Contents (Elt F) → (⟨S1048576, .f32⟩ : BufTy).Contents (Elt F)),
    nullary main_cst_16 (constant S_ .f32 0x00000000#32),
    binary main_v61 main_cst_16 main_v62 ((fun x v => Host.reduceAdd x v reducesTo_S1048576_S_d0 h_S_) : (⟨S1048576, .f32⟩ : BufTy).Contents (Elt F) → (⟨S_, .f32⟩ : BufTy).Contents (Elt F) → (⟨S_, .f32⟩ : BufTy).Contents (Elt F)),
    nullary main_cst_17 (constant S_ .f32 0x49800000#32),
    binary main_v62 main_cst_17 main_v63 (Host.divf : (⟨S_, .f32⟩ : BufTy).Contents (Elt F) → (⟨S_, .f32⟩ : BufTy).Contents (Elt F) → (⟨S_, .f32⟩ : BufTy).Contents (Elt F))]

set_option maxRecDepth 8192 in
set_option maxHeartbeats 4000000 in
/-- The program is the sequence of its operations. -/
theorem main_eq (c : Dev nD) : main (F := F) c = seq ops := rfl

/-- The program has no scoped buffer. -/
theorem scopedRefs_eq : (Finset.univ.filter fun b : Ref sig .tc => b.isScoped) = ∅ := by decide

/-- The program has no scoped semaphore. -/
theorem scopedSems_eq : (Finset.univ.filter fun sm : SemLoc sig => sm.isScoped .tc) = ∅ := by decide

set_option maxRecDepth 8192 in
/-- Every operation works on the program's buffers. -/
theorem ops_sub : (ops : List (HloOp τ sig (Elt F))).Forall fun op => op.bufs ⊆ tcRefs τ sig :=
  ⟨nullary_bufs_sub .., nullary_bufs_sub .., nullary_bufs_sub .., quaternary_bufs_sub .., quaternary_bufs_sub .., nullary_bufs_sub .., unary_bufs_sub .., binary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., nullary_bufs_sub .., unary_bufs_sub .., binary_bufs_sub .., nullary_bufs_sub .., unary_bufs_sub .., binary_bufs_sub .., binary_bufs_sub .., nullary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., binary_bufs_sub .., binary_bufs_sub .., nullary_bufs_sub .., binary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., binary_bufs_sub .., nullary_bufs_sub .., binary_bufs_sub .., nullary_bufs_sub .., binary_bufs_sub ..⟩

/-! ## The stages -/

/-- The predicted class of each sample. -/
def predicted (lg : FVec F S1048576x4 .f32) : IVec S1048576 32 :=
  topAndPlace2 lg (iotaInDim S1048576x4 32 1) (constant S_ .f32 0xFF800000#32) (constantI S_ 32 0#32)

/-- A class number as an index: a negative one counts from the end. -/
def wrapRow (x : IVec S1048576 32) : IVec S1048576 32 :=
  select (cmpi .slt x (broadcastInDim S1048576 ![] bcast_S_S1048576 (constantI S_ 32 0#32))) (addi x (broadcastInDim S1048576 ![] bcast_S_S1048576 (constantI S_ 32 4#32))) x

/-- A vector of one entry per sample as a column. -/
def column (x : IVec S1048576 32) : IVec S1048576x1 32 := broadcastInDim S1048576x1 ![0] bcast_S1048576_S1048576x1_0 x

/-- The confusion matrix: at (label, prediction), how many samples. -/
def confusion (lg : FVec F S1048576x4 .f32) (gt : IVec S1048576 32) : FVec F S4x4 .f32 :=
  Host.scatterAdd scatter_S4x4_S1048576x2_S1048576_n_01_01_1 (broadcastInDim S4x4 ![] bcast_S_S4x4 (constant S_ .f32 0x00000000#32))
    (joinRows (column (wrapRow gt)) (column (wrapRow (predicted lg))))
    (uitofp .f32 (cmpi .ne gt (broadcastInDim S1048576 ![] bcast_S_S1048576 (constantI S_ 32 4294967196#32))))

/-- The smoothed confusion matrix. -/
def smoothed (cm em : FVec F S4x4 .f32) : FVec F S4x4 .f32 :=
  addf (mulf (broadcastInDim S4x4 ![] bcast_S_S4x4 (constant S_ .f32 0x3F4CCCCD#32)) cm) (mulf (broadcastInDim S4x4 ![] bcast_S_S4x4 (constant S_ .f32 0x3E4CCCCD#32)) em)

/-- The class numbers 0, 1, 2, 3 as indices. -/
def wrapFour : IVec S4 32 :=
  select (cmpi .slt (iotaInDim S4 32 0) (broadcastInDim S4 ![] bcast_S_S4 (constantI S_ 32 0#32))) (addi (iotaInDim S4 32 0) (broadcastInDim S4 ![] bcast_S_S4 (constantI S_ 32 4#32))) (iotaInDim S4 32 0)

/-- Each row's sum without its diagonal entry. -/
def mistakes (e : FVec F S4x4 .f32) : FVec F S4 .f32 :=
  subf (Host.reduceAdd e (constant S_ .f32 0x00000000#32) reducesTo_S4x4_S4_d1 h_S_)
    (Host.gather gather_S4x4_S4x2_S4_n_01_n_n_01_1_11 e (joinFour (broadcastInDim S4x1 ![0] bcast_S4_S4x1_0 wrapFour) (broadcastInDim S4x1 ![0] bcast_S4_S4x1_0 wrapFour)))

/-- The class weights: the greatest number of mistakes over each class's, capped. -/
def classWeights (q : FVec F S4 .f32) : FVec F S4 .f32 :=
  minimumf (Host.divf (broadcastInDim S4 ![] bcast_S_S4 (Host.reduce FloatOps.maximumf q (constant S_ .f32 0xFF800000#32) reducesTo_S4_S_d0 h_S_))
    (addf q (broadcastInDim S4 ![] bcast_S_S4 (constant S_ .f32 0x358637BD#32)))) (broadcastInDim S4 ![] bcast_S_S4 (constant S_ .f32 0x3F99999A#32))

/-- Each sample's weight: its label's. -/
def rowWeights (w : FVec F S4 .f32) (gt : IVec S1048576 32) : FVec F S1048576 .f32 :=
  Host.gather gather_S4_S1048576x1_S1048576_n_0_n_n_0_1_1 w (column (wrapRow gt))

/-- A row's entry spread over the row's four places. -/
def spread (x : FVec F S1048576x1 .f32) : FVec F S1048576x4 .f32 := broadcastInDim S1048576x4 ![0, 1] bcast_S1048576x1_S1048576x4_0_1 x

/-- The logits less their row's greatest. -/
def shifted (lg : FVec F S1048576x4 .f32) : FVec F S1048576x4 .f32 :=
  subf lg (spread (broadcastInDim S1048576x1 ![0] bcast_S1048576_S1048576x1_0
    (maximumf (broadcastInDim S1048576 ![] bcast_S_S1048576 (constant S_ .f32 0xFF800000#32))
      (Host.reduce FloatOps.maximumf lg (constant S_ .f32 0xFF800000#32) reducesTo_S1048576x4_S1048576_d1 h_S_))))

/-- The log-probabilities. -/
def logProbs (lg : FVec F S1048576x4 .f32) : FVec F S1048576x4 .f32 :=
  subf (shifted lg) (spread (Host.log (broadcastInDim S1048576x1 ![0] bcast_S1048576_S1048576x1_0
    (Host.reduceAdd (Host.exp (shifted lg)) (constant S_ .f32 0x00000000#32) reducesTo_S1048576x4_S1048576_d1 h_S_))))

/-- The label column as indices of three coordinates. -/
def labelIndex (gt : IVec S1048576 32) : IVec S1048576x1x1 32 :=
  shapeCast S1048576x1x1 (select (cmpi .slt (column gt) (broadcastInDim S1048576x1 ![] bcast_S_S1048576x1 (constantI S_ 32 0#32)))
    (addi (column gt) (broadcastInDim S1048576x1 ![] bcast_S_S1048576x1 (constantI S_ 32 4#32))) (column gt)) shapeCasts_S1048576x1_S1048576x1x1

/-- Each row's entry at the sample's label. -/
def picked (x : FVec F S1048576x4 .f32) (i : IVec S1048576x1x1 32) : FVec F S1048576x1 .f32 :=
  select (Host.reduce IntOp.andi
      (andi (cmpi .sge i (broadcastInDim S1048576x1x1 ![] bcast_S_S1048576x1x1 (constantI S_ 32 0#32)))
        (cmpi .sle i (broadcastInDim S1048576x1x1 ![0, 1, 2] bcast_S1x1x1_S1048576x1x1_0_1_2 (broadcastInDim S1x1x1 ![2] bcast_S1_S1x1x1_2 (constantI S1 32 3#32)))))
      (constantI S_ 1 1#1) reducesTo_S1048576x1x1_S1048576x1_d2 h_S_)
    (Host.gather gather_S1048576x4_S1048576x1x1_S1048576x1_n_1_0_0_1_2_11 x i)
    (broadcastInDim S1048576x1 ![] bcast_S_S1048576x1 (constant S_ .f32 0x7FC00000#32))

/-- The cross entropy of each sample. -/
def crossEntropy (lg : FVec F S1048576x4 .f32) (gt : IVec S1048576 32) : FVec F S1048576 .f32 :=
  Host.negf (shapeCast S1048576 (picked (logProbs lg) (labelIndex gt)) shapeCasts_S1048576x1_S1048576)

/-- The reference's result: the mean of the weighted cross entropies. -/
def meanLoss (lg : FVec F S1048576x4 .f32) (gt : IVec S1048576 32) (em : FVec F S4x4 .f32) : FVec F S_ .f32 :=
  Host.divf (Host.reduceAdd (mulf (crossEntropy lg gt) (rowWeights (classWeights (mistakes (smoothed (confusion lg gt) em))) gt))
    (constant S_ .f32 0x00000000#32) reducesTo_S1048576_S_d0 h_S_) (constant S_ .f32 0x49800000#32)

set_option maxRecDepth 8192 in
set_option maxHeartbeats 47600000 in
/-- The reference's run: the result buffer at the mean loss of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v63) = meanLoss (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v63).trans (by simp only [ops, TRef.binary, TRef.nullary, TRef.reshape, TRef.ternary, TRef.quaternary, TRef.unary, TRef.toBuf, TRef.ofBuf, cast_eq]; after_results_simp <;> rfl),
      (h c main_arg0).trans (by simp only [ops, TRef.binary, TRef.nullary, TRef.reshape, TRef.ternary, TRef.quaternary, TRef.unary, TRef.toBuf, TRef.ofBuf, cast_eq]; after_results_simp <;> rfl),
      (h c main_arg1).trans (by simp only [ops, TRef.binary, TRef.nullary, TRef.reshape, TRef.ternary, TRef.quaternary, TRef.unary, TRef.toBuf, TRef.ofBuf, cast_eq]; after_results_simp <;> rfl),
      (h c main_arg2).trans (by simp only [ops, TRef.binary, TRef.nullary, TRef.reshape, TRef.ternary, TRef.quaternary, TRef.unary, TRef.toBuf, TRef.ofBuf, cast_eq]; after_results_simp <;> rfl)⟩)
    (run_seq scopedRefs_eq scopedSems_eq defs main (fun _ => ops) main_eq (fun _ => ops_sub) m ρ)

/-- The reference's frame: the arguments unchanged and every semaphore counter at zero (it declares none). -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun r h => ⟨fun c => (h c).2, sem_eq_zero_of_no_sems (by decide) r.2⟩) (run m ρ)

end Cert.ReferenceIdeal.Value

end
-- ==== Proof.Reads.lean ====
/- The reference's index arithmetic, its scatter and its gathers, read at an index. -/
module
public import proofs.«01_k».proof.Proof.RefRun
public import Idealize.ShloMosaic.Lib.Pointwise
public import Idealize.ShloMosaic.Lib.Tactic
@[expose] public section
noncomputable section
namespace Cert.ReferenceIdeal.Value
open Cert.ReferenceIdeal Cert.ReferenceIdeal.Gen Idealize.ShloMosaic Idealize.ShloMosaic.TcCoe Idealize.SL.Sem

/-- A class number read signed is itself. -/
theorem class_toInt (k : Fin 4) : (BitVec.ofNat 32 k.val).toInt = (k.val : ℤ) := by
  match k with
  | ⟨0, _⟩ => rfl
  | ⟨1, _⟩ => rfl
  | ⟨2, _⟩ => rfl
  | ⟨3, _⟩ => rfl

/-- Two class numbers have the same word only when they are the same. -/
theorem class_inj (k l : Fin 4) (h : BitVec.ofNat 32 k.val = BitVec.ofNat 32 l.val) : k = l := by
  have := congrArg BitVec.toInt h
  rw [class_toInt, class_toInt] at this
  exact Fin.ext (by exact_mod_cast this)

/-- Wrapping a class number leaves it. -/
theorem wrap_class (k : Fin 4) : Scalar.select (IntOp.cmpi .slt (BitVec.ofNat 32 k.val) 0#32) (IntOp.addi (BitVec.ofNat 32 k.val) 4#32) (BitVec.ofNat 32 k.val) = BitVec.ofNat 32 k.val := by
  match k with
  | ⟨0, _⟩ => rfl
  | ⟨1, _⟩ => rfl
  | ⟨2, _⟩ => rfl
  | ⟨3, _⟩ => rfl

/-- A wrapped vector of class numbers, read where it holds class `k`. -/
theorem wrapRow_apply (x : IVec S1048576 32) (n : Fin 1048576) (k : Fin 4) (h : x (ix1 n) = BitVec.ofNat 32 k.val) :
    wrapRow x (ix1 n) = BitVec.ofNat 32 k.val := by
  show Scalar.select (IntOp.cmpi .slt (x (ix1 n)) 0#32) (IntOp.addi (x (ix1 n)) 4#32) (x (ix1 n)) = _
  rw [h]
  exact wrap_class k

/-- A column read at a row. -/
theorem column_apply (x : IVec S1048576 32) (n : Fin 1048576) (z : Fin 1) : column x (ix2 n z) = x (ix1 n) := by
  unfold column
  pointwise

/-- The first of a pair of columns. -/
theorem joinRows_left (a b : IVec S1048576x1 32) (n : Fin 1048576) : joinRows a b (ix2 n 0) = a (ix2 n 0) := by
  unfold joinRows
  pointwise

/-- The second of a pair of columns. -/
theorem joinRows_right (a b : IVec S1048576x1 32) (n : Fin 1048576) : joinRows a b (ix2 n 1) = b (ix2 n 0) := by
  unfold joinRows
  pointwise

/-- The first of a pair of columns of four. -/
theorem joinFour_left (a b : IVec S4x1 32) (n : Fin 4) : joinFour a b (ix2 n 0) = a (ix2 n 0) := by
  unfold joinFour
  pointwise

/-- The second of a pair of columns of four. -/
theorem joinFour_right (a b : IVec S4x1 32) (n : Fin 4) : joinFour a b (ix2 n 1) = b (ix2 n 0) := by
  unfold joinFour
  pointwise

/-- The class numbers as indices are themselves. -/
theorem wrapFour_apply (k : Fin 4) (z : Fin 1) : broadcastInDim S4x1 ![0] bcast_S4_S4x1_0 wrapFour (ix2 k z) = BitVec.ofNat 32 k.val := by
  unfold wrapFour
  pointwise
  exact wrap_class k

/-- Sample `n` lands at its pair of class numbers. -/
theorem lands (idx : IVec S1048576x2 32) (n : Fin 1048576) (g p : Fin 4)
    (hg : idx (ix2 n 0) = BitVec.ofNat 32 g.val) (hp : idx (ix2 n 1) = BitVec.ofNat 32 p.val) :
    scatter_S4x4_S1048576x2_S1048576_n_01_01_1.resultIdx? (ix1 n) idx = some (ix2 g p) := by
  have w : ∀ a, scatter_S4x4_S1048576x2_S1048576_n_01_01_1.window (ix1 n) a = 0 := by
    intro a
    unfold ScatterDims.window
    exact dif_neg ((by decide : ∀ a, a ∉ scatter_S4x4_S1048576x2_S1048576_n_01_01_1.sKept) a)
  have s0 : scatter_S4x4_S1048576x2_S1048576_n_01_01_1.start (ix1 n) idx 0 = (g.val : ℤ) := by
    unfold ScatterDims.start
    rw [dif_pos (by decide)]
    rw [← class_toInt, ← hg]
    refine congrArg (fun i => (idx i).toInt) ?_
    funext b
    match b with
    | ⟨0, _⟩ => rfl
    | ⟨1, _⟩ => rfl
  have s1 : scatter_S4x4_S1048576x2_S1048576_n_01_01_1.start (ix1 n) idx 1 = (p.val : ℤ) := by
    unfold ScatterDims.start
    rw [dif_pos (by decide)]
    rw [← class_toInt, ← hp]
    refine congrArg (fun i => (idx i).toInt) ?_
    funext b
    match b with
    | ⟨0, _⟩ => rfl
    | ⟨1, _⟩ => rfl
  unfold ScatterDims.resultIdx?
  rw [dif_pos]
  · refine congrArg some (funext fun a => Fin.ext ?_)
    match a with
    | ⟨0, _⟩ =>
      show (scatter_S4x4_S1048576x2_S1048576_n_01_01_1.start (ix1 n) idx 0 + (scatter_S4x4_S1048576x2_S1048576_n_01_01_1.window (ix1 n) 0 : ℕ)).toNat = g.val
      rw [s0, w]; omega
    | ⟨1, _⟩ =>
      show (scatter_S4x4_S1048576x2_S1048576_n_01_01_1.start (ix1 n) idx 1 + (scatter_S4x4_S1048576x2_S1048576_n_01_01_1.window (ix1 n) 1 : ℕ)).toNat = p.val
      rw [s1, w]; omega
  · intro a
    rw [w]
    match a with
    | ⟨0, _⟩ =>
      show 0 ≤ scatter_S4x4_S1048576x2_S1048576_n_01_01_1.start (ix1 n) idx 0 + ((0 : ℕ) : ℤ) ∧ scatter_S4x4_S1048576x2_S1048576_n_01_01_1.start (ix1 n) idx 0 + ((0 : ℕ) : ℤ) < ((4 : ℕ) : ℤ)
      rw [s0]; have := g.isLt; omega
    | ⟨1, _⟩ =>
      show 0 ≤ scatter_S4x4_S1048576x2_S1048576_n_01_01_1.start (ix1 n) idx 1 + ((0 : ℕ) : ℤ) ∧ scatter_S4x4_S1048576x2_S1048576_n_01_01_1.start (ix1 n) idx 1 + ((0 : ℕ) : ℤ) < ((4 : ℕ) : ℤ)
      rw [s1]; have := p.isLt; omega

/-- The gather of the diagonal, read at a class. -/
theorem diagonal_apply (e : FVec Ideal S4x4 .f32) (idx : IVec S4x2 32) (g : Fin 4)
    (h0 : idx (ix2 g 0) = BitVec.ofNat 32 g.val) (h1 : idx (ix2 g 1) = BitVec.ofNat 32 g.val) :
    Host.gather gather_S4x4_S4x2_S4_n_01_n_n_01_1_11 e idx (ix1 g) = e (ix2 g g) := by
  unfold Host.gather
  refine congrArg e (funext fun a => Fin.ext ?_)
  have s0 : gather_S4x4_S4x2_S4_n_01_n_n_01_1_11.start (ix1 g) idx 0 = min (idx (ix2 g 0)).toInt.toNat 3 := by
    unfold GatherDims.start
    rw [dif_pos (by decide)]
    refine congrArg (fun i => min (idx i).toInt.toNat 3) ?_
    funext b
    match b with
    | ⟨0, _⟩ => rfl
    | ⟨1, _⟩ => rfl
  have s1 : gather_S4x4_S4x2_S4_n_01_n_n_01_1_11.start (ix1 g) idx 1 = min (idx (ix2 g 1)).toInt.toNat 3 := by
    unfold GatherDims.start
    rw [dif_pos (by decide)]
    refine congrArg (fun i => min (idx i).toInt.toNat 3) ?_
    funext b
    match b with
    | ⟨0, _⟩ => rfl
    | ⟨1, _⟩ => rfl
  match a with
  | ⟨0, _⟩ =>
    show gather_S4x4_S4x2_S4_n_01_n_n_01_1_11.start (ix1 g) idx 0 + gather_S4x4_S4x2_S4_n_01_n_n_01_1_11.batchCoord (ix1 g) 0 + gather_S4x4_S4x2_S4_n_01_n_n_01_1_11.offCoord (ix1 g) 0 = g.val
    rw [GatherDims.batchCoord_eq_zero _ _ _ (by decide), GatherDims.offCoord_eq_zero _ _ _ (by decide)]
    rw [s0, h0, class_toInt]
    omega
  | ⟨1, _⟩ =>
    show gather_S4x4_S4x2_S4_n_01_n_n_01_1_11.start (ix1 g) idx 1 + gather_S4x4_S4x2_S4_n_01_n_n_01_1_11.batchCoord (ix1 g) 1 + gather_S4x4_S4x2_S4_n_01_n_n_01_1_11.offCoord (ix1 g) 1 = g.val
    rw [GatherDims.batchCoord_eq_zero _ _ _ (by decide), GatherDims.offCoord_eq_zero _ _ _ (by decide)]
    rw [s1, h1, class_toInt]
    omega

/-- The gather of the class weights, read at a sample labelled `g`. -/
theorem weight_apply (w : FVec Ideal S4 .f32) (idx : IVec S1048576x1 32) (n : Fin 1048576) (g : Fin 4)
    (h : idx (ix2 n 0) = BitVec.ofNat 32 g.val) :
    Host.gather gather_S4_S1048576x1_S1048576_n_0_n_n_0_1_1 w idx (ix1 n) = w (ix1 g) := by
  unfold Host.gather
  refine congrArg w (funext fun a => Fin.ext ?_)
  have s0 : gather_S4_S1048576x1_S1048576_n_0_n_n_0_1_1.start (ix1 n) idx 0 = min (idx (ix2 n 0)).toInt.toNat 3 := by
    unfold GatherDims.start
    rw [dif_pos (by decide)]
    refine congrArg (fun i => min (idx i).toInt.toNat 3) ?_
    funext b
    match b with
    | ⟨0, _⟩ => rfl
    | ⟨1, _⟩ => rfl
  match a with
  | ⟨0, _⟩ =>
    show gather_S4_S1048576x1_S1048576_n_0_n_n_0_1_1.start (ix1 n) idx 0 + gather_S4_S1048576x1_S1048576_n_0_n_n_0_1_1.batchCoord (ix1 n) 0 + gather_S4_S1048576x1_S1048576_n_0_n_n_0_1_1.offCoord (ix1 n) 0 = g.val
    rw [GatherDims.batchCoord_eq_zero _ _ _ (by decide), GatherDims.offCoord_eq_zero _ _ _ (by decide)]
    rw [s0, h, class_toInt]
    omega

/-- The gather along a row, read at a sample whose index is `g`. -/
theorem along_apply (x : FVec Ideal S1048576x4 .f32) (idx : IVec S1048576x1x1 32) (n : Fin 1048576) (g : Fin 4)
    (h : idx (ix3 n 0 0) = BitVec.ofNat 32 g.val) :
    Host.gather gather_S1048576x4_S1048576x1x1_S1048576x1_n_1_0_0_1_2_11 x idx (ix2 n 0) = x (ix2 n g) := by
  unfold Host.gather
  refine congrArg x (funext fun a => Fin.ext ?_)
  have s1 : gather_S1048576x4_S1048576x1x1_S1048576x1_n_1_0_0_1_2_11.start (ix2 n 0) idx 1 = min (idx (ix3 n 0 0)).toInt.toNat 3 := by
    unfold GatherDims.start
    rw [dif_pos (by decide)]
    refine congrArg (fun i => min (idx i).toInt.toNat 3) ?_
    funext b
    match b with
    | ⟨0, _⟩ => rfl
    | ⟨1, _⟩ => rfl
    | ⟨2, _⟩ => rfl
  match a with
  | ⟨0, _⟩ =>
    show gather_S1048576x4_S1048576x1x1_S1048576x1_n_1_0_0_1_2_11.start (ix2 n 0) idx 0 + gather_S1048576x4_S1048576x1x1_S1048576x1_n_1_0_0_1_2_11.batchCoord (ix2 n 0) 0 + gather_S1048576x4_S1048576x1x1_S1048576x1_n_1_0_0_1_2_11.offCoord (ix2 n 0) 0 = n.val
    rw [GatherDims.offCoord_eq_zero _ _ _ (by decide)]
    unfold GatherDims.start
    rw [dif_neg (by decide)]
    unfold GatherDims.batchCoord
    rw [dif_pos (by decide)]
    show 0 + n.val + 0 = n.val
    omega
  | ⟨1, _⟩ =>
    show gather_S1048576x4_S1048576x1x1_S1048576x1_n_1_0_0_1_2_11.start (ix2 n 0) idx 1 + gather_S1048576x4_S1048576x1x1_S1048576x1_n_1_0_0_1_2_11.batchCoord (ix2 n 0) 1 + gather_S1048576x4_S1048576x1x1_S1048576x1_n_1_0_0_1_2_11.offCoord (ix2 n 0) 1 = g.val
    rw [GatherDims.batchCoord_eq_zero _ _ _ (by decide), GatherDims.offCoord_eq_zero _ _ _ (by decide)]
    rw [s1, h, class_toInt]
    omega

end Cert.ReferenceIdeal.Value
end
-- ==== Proof.Argmax.lean ====
/- The reference's predicted class: the first place of the row's maximum. -/
module
public import proofs.«01_k».proof.Proof.RefRun
public import Idealize.ShloMosaic.Lib.Pointwise
public import Idealize.ShloMosaic.Lib.Tactic
@[expose] public section
noncomputable section
namespace Cert.ReferenceIdeal.Value
open Cert.ReferenceIdeal Cert.ReferenceIdeal.Gen Idealize.ShloMosaic Idealize.ShloMosaic.TcCoe Idealize.SL.Sem

/-- One pair beats another: a greater value, or the same value at an earlier (or the same) place. -/
def Beats (p q : EReal × BitVec 32) : Prop := q.1 < p.1 ∨ q.1 = p.1 ∧ p.2.toInt ≤ q.2.toInt

/-- A pair beats itself. -/
theorem Beats.refl (p : EReal × BitVec 32) : Beats p p := Or.inr ⟨rfl, le_rfl⟩

/-- Beating is transitive. -/
theorem Beats.trans {p q r : EReal × BitVec 32} (h : Beats p q) (k : Beats q r) : Beats p r := by
  rcases h with h | ⟨h, h'⟩ <;> rcases k with k | ⟨k, k'⟩
  · exact Or.inl (k.trans h)
  · exact Or.inl (k ▸ h)
  · exact Or.inl (h ▸ k)
  · exact Or.inr ⟨k.trans h, h'.trans k'⟩

/-- The reduction's step keeps one of its two pairs, and that one beats both. -/
theorem step_spec (p q : EReal × BitVec 32) :
    (reducer_argmax_f32_i32 (F := Ideal) p q = p ∨ reducer_argmax_f32_i32 (F := Ideal) p q = q)
      ∧ Beats (reducer_argmax_f32_i32 (F := Ideal) p q) p ∧ Beats (reducer_argmax_f32_i32 (F := Ideal) p q) q := by
  obtain ⟨x, i⟩ := p
  obtain ⟨y, j⟩ := q
  have hcmp : ∀ (u v : BitVec 32), u.slt v = decide (u.toInt < v.toInt) := fun u v => rfl
  unfold reducer_argmax_f32_i32
  simp only [Ideal.cmpf_def, Ideal.cmp, IntOp.cmpi, IntOp.ori, IntOp.andi, Scalar.select, hcmp]
  rcases lt_trichotomy y x with h | h | h
  · have h' : ¬ x = y := ne_of_gt h
    simp [h, h']
    exact ⟨Beats.refl _, Or.inl h⟩
  · subst h
    by_cases k : i.toInt < j.toInt
    · simp [k]
      exact ⟨Beats.refl _, Or.inr ⟨rfl, k.le⟩⟩
    · simp [k]
      exact ⟨Or.inr ⟨rfl, not_lt.1 k⟩, Beats.refl _⟩
  · have h' : ¬ x = y := ne_of_lt h
    have h'' : ¬ y < x := not_lt.2 h.le
    simp [h', h'']
    exact ⟨Or.inl h, Beats.refl _⟩

/-- The fold of the step over a list of pairs: one of the pairs (or the initial one), beating all of them. -/
theorem fold_spec {ι : Type} (f : ι → EReal × BitVec 32) : ∀ (l : List ι) (p : EReal × BitVec 32),
    let o := l.foldl (fun r n => reducer_argmax_f32_i32 (F := Ideal) r (f n)) p
    (o = p ∨ ∃ n ∈ l, o = f n) ∧ Beats o p ∧ ∀ n ∈ l, Beats o (f n)
  | [], p => ⟨Or.inl rfl, Beats.refl p, fun _ h => nomatch h⟩
  | a :: l, p => by
    obtain ⟨h1, h2, h3⟩ := fold_spec f l (reducer_argmax_f32_i32 (F := Ideal) p (f a))
    obtain ⟨s1, s2, s3⟩ := step_spec p (f a)
    refine ⟨?_, h2.trans s2, fun n hn => ?_⟩
    · rcases h1 with h1 | ⟨n, hn, h1⟩
      · rcases s1 with s1 | s1
        · exact Or.inl (h1.trans s1)
        · exact Or.inr ⟨a, List.mem_cons_self .., h1.trans s1⟩
      · exact Or.inr ⟨n, List.mem_cons_of_mem _ hn, h1⟩
    · rcases List.mem_cons.1 hn with rfl | hn
      · exact h2.trans s3
      · exact h3 n hn

/-- The same of the whole reduction: its value at an index is a pair that reduces there (or the initial one), beating every pair that does. -/
theorem reduce_spec {s t u : Shape} {axes : List (Fin s.rank)} (x : FVec Ideal s .f32) (y : IVec s 32) (v : FVec Ideal u .f32) (w : IVec u 32)
    (h : s.ReducesTo axes t) (hu : 0 < u.numel)
    (o : t.Idx → EReal × BitVec 32) (ho : Host.argReduce (reducer_argmax_f32_i32 (F := Ideal)) x y v w h hu = o) (j : t.Idx) :
    (o j = (v (Shape.Idx.first hu), w (Shape.Idx.first hu)) ∨ ∃ i, h.drop i = j ∧ o j = (x i, y i)) ∧ ∀ i, h.drop i = j → Beats (o j) (x i, y i) := by
  rw [← ho, Ideal.argReduce_eq_reduce2]
  unfold Host.reduce2
  obtain ⟨h1, h2, h3⟩ := fold_spec (fun i : Fin s.numel => (x (s.rowMajor.symm i), y (s.rowMajor.symm i)))
    ((List.finRange s.numel).filter fun i => h.drop (s.rowMajor.symm i) = j) (v (Shape.Idx.first hu), w (Shape.Idx.first hu))
  refine ⟨?_, fun i hi => ?_⟩
  · rcases h1 with h1 | ⟨n, hn, h1⟩
    · exact Or.inl h1
    · exact Or.inr ⟨_, of_decide_eq_true (List.mem_filter.1 hn).2, h1⟩
  · have := h3 (s.rowMajor i) (List.mem_filter.2 ⟨List.mem_finRange _, decide_eq_true (by rw [Equiv.symm_apply_apply]; exact hi)⟩)
    rw [Equiv.symm_apply_apply] at this
    exact this

/-- Which entries reduce into a row: the row's. -/
theorem drop_row (y : S1048576x4.Idx) (n : Fin 1048576) : reducesTo_S1048576x4_S1048576_d1.drop y = ix1 n ↔ (y 0).val = n.val := by
  have e : (reducesTo_S1048576x4_S1048576_d1.drop y 0 : ℕ) = (y 0).val :=
    reducesTo_S1048576x4_S1048576_d1.drop_apply_val_of_eq y 0 0 (by decide) (by decide)
  constructor
  · intro h
    rw [← e, h]
    rfl
  · intro h
    funext b
    match b with
    | ⟨0, _⟩ => exact Fin.ext (e.trans h)

/-- The initial value of a maximum is -∞. -/
theorem negInf : Ideal.ofBits .f32 0xFF800000#32 = (⊥ : EReal) := by
  simp [Ideal.ofBits, Ideal.ieee]

/-- The predicted classes are the places the reduction carries. -/
theorem predicted_eq (lg : FVec Ideal S1048576x4 .f32) (o : S1048576.Idx → EReal × BitVec 32)
    (ho : Host.argReduce (reducer_argmax_f32_i32 (F := Ideal)) lg (iotaInDim S1048576x4 32 1) (constant (F := Ideal) S_ .f32 0xFF800000#32) (constantI S_ 32 0#32)
      reducesTo_S1048576x4_S1048576_d1 h_S_ = o) : predicted (F := Ideal) lg = fun j => (o j).2 := by
  unfold predicted topAndPlace2
  rw [ho]

/-- What the reduction carries for a row that holds something above -∞: an entry that beats the row's four, and its place. -/
theorem carried_spec (lg : FVec Ideal S1048576x4 .f32) (n : Fin 1048576) (hn : ∃ k : Fin 4, ⊥ < lg (ix2 n k)) (o : S1048576.Idx → EReal × BitVec 32)
    (ho : Host.argReduce (reducer_argmax_f32_i32 (F := Ideal)) lg (iotaInDim S1048576x4 32 1) (constant (F := Ideal) S_ .f32 0xFF800000#32) (constantI S_ 32 0#32)
      reducesTo_S1048576x4_S1048576_d1 h_S_ = o) :
    ∃ k : Fin 4, (o (ix1 n)).2 = BitVec.ofNat 32 k.val ∧ ∀ k' : Fin 4, Beats (lg (ix2 n k), BitVec.ofNat 32 k.val) (lg (ix2 n k'), BitVec.ofNat 32 k'.val) := by
  obtain ⟨h1, h3⟩ := reduce_spec lg _ _ _ _ _ o ho (ix1 n)
  clear ho
  generalize o (ix1 n) = p at h1 h3
  have hall : ∀ k : Fin 4, Beats p (lg (ix2 n k), BitVec.ofNat 32 k.val) := fun k => h3 (ix2 n k) ((drop_row _ _).2 rfl)
  rcases h1 with h1 | ⟨y, hd, h1⟩
  · obtain ⟨k, hk⟩ := hn
    exfalso
    have := hall k
    rw [h1, show (constant (F := Ideal) S_ .f32 0xFF800000#32 (Shape.Idx.first h_S_) : EReal) = ⊥ from negInf] at this
    rcases this with h | ⟨h, _⟩
    · exact not_lt_bot h
    · exact (ne_of_gt hk) h
  · obtain ⟨k, rfl⟩ : ∃ k : Fin 4, y = ix2 n k := ⟨y 1, by
      funext a
      match a with
      | ⟨0, _⟩ => exact Fin.ext ((drop_row _ _).1 hd)
      | ⟨1, _⟩ => rfl⟩
    subst h1
    exact ⟨k, rfl, hall⟩

/-- The predicted class of such a row is the place of an entry that beats the row's four. -/
theorem predicted_spec (lg : FVec Ideal S1048576x4 .f32) (n : Fin 1048576) (hn : ∃ k : Fin 4, ⊥ < lg (ix2 n k)) :
    ∃ k : Fin 4, predicted (F := Ideal) lg (ix1 n) = BitVec.ofNat 32 k.val
      ∧ ∀ k' : Fin 4, Beats (lg (ix2 n k), BitVec.ofNat 32 k.val) (lg (ix2 n k'), BitVec.ofNat 32 k'.val) := by
  rw [predicted_eq lg _ rfl]
  exact carried_spec lg n hn _ rfl

end Cert.ReferenceIdeal.Value
end
-- ==== Proof.Stages.lean ====
/- The reference's stages, read at an index. -/
module
public import proofs.«01_k».proof.Proof.Reads
public import proofs.«01_k».proof.Proof.Argmax
@[expose] public section
noncomputable section
namespace Cert.ReferenceIdeal.Value
open Cert.ReferenceIdeal Cert.ReferenceIdeal.Gen Idealize.ShloMosaic Idealize.ShloMosaic.TcCoe Idealize.SL.Sem

/-- The folded maximum of four, from -∞. -/
theorem fold_max_four (f : Fin 4 → EReal) : (Finset.univ : Finset (Fin 4)).fold max ⊥ f = max (max (f 0) (f 1)) (max (f 2) (f 3)) := by
  have e : (Finset.univ : Finset (Fin 4)) = {0, 1, 2, 3} := by decide
  rw [e]
  simp [max_assoc]

/-- The confusion matrix at (g, p): the number of samples labelled `g` and predicted `p`. -/
theorem confusion_apply (lg : FVec Ideal S1048576x4 .f32) (gt : IVec S1048576 32) (lab ch : Fin 1048576 → Fin 4)
    (hl : ∀ n, gt (ix1 n) = BitVec.ofNat 32 (lab n).val) (hc : ∀ n, predicted (F := Ideal) lg (ix1 n) = BitVec.ofNat 32 (ch n).val) (g p : Fin 4) :
    confusion (F := Ideal) lg gt (ix2 g p) = ∑ n : Fin 1048576, (((if lab n = g ∧ ch n = p then 1 else 0 : ℕ) : ℝ) : EReal) := by
  have hland : ∀ n : Fin 1048576, scatter_S4x4_S1048576x2_S1048576_n_01_01_1.resultIdx? (ix1 n) (joinRows (column (wrapRow gt)) (column (wrapRow (predicted (F := Ideal) lg)))) = some (ix2 (lab n) (ch n)) := fun n =>
    lands _ n _ _ (by rw [joinRows_left, column_apply]; exact wrapRow_apply _ _ _ (hl n)) (by rw [joinRows_right, column_apply]; exact wrapRow_apply _ _ _ (hc n))
  have hone : ∀ n : Fin 1048576, (uitofp (F := Ideal) .f32 (cmpi .ne gt (broadcastInDim S1048576 ![] bcast_S_S1048576 (constantI S_ 32 4294967196#32))) : S1048576.Idx → EReal) (ix1 n) = 1 := by
    intro n
    show (((IntOp.cmpi .ne (gt (ix1 n)) 4294967196#32).toNat : ℝ) : EReal) = 1
    rw [hl n]
    have : ∀ k : Fin 4, IntOp.cmpi .ne (BitVec.ofNat 32 k.val) 4294967196#32 = 1#1 := by decide
    rw [this]
    norm_num
  unfold confusion
  generalize (uitofp (F := Ideal) .f32 (cmpi .ne gt (broadcastInDim S1048576 ![] bcast_S_S1048576 (constantI S_ 32 4294967196#32))) : S1048576.Idx → EReal) = U at hone
  generalize joinRows (column (wrapRow gt)) (column (wrapRow (predicted (F := Ideal) lg))) = J at hland
  show Ideal.ofBits .f32 0x00000000#32 + ∑ j ∈ Finset.univ.filter (fun j => scatter_S4x4_S1048576x2_S1048576_n_01_01_1.resultIdx? j J = some (ix2 g p)), U j = _
  rw [Ideal.ofBits_zero_f32, zero_add, Finset.sum_filter]
  have e : ∀ F : S1048576.Idx → EReal, ∑ j, F j = ∑ n : Fin 1048576, F (ix1 n) := by
    intro F
    refine (Fintype.sum_bijective (fun n : Fin 1048576 => (ix1 n : S1048576.Idx)) ⟨fun a b h => congrFun h 0, fun j => ⟨j 0, ?_⟩⟩ _ _ fun n => rfl).symm
    funext a
    match a with
    | ⟨0, _⟩ => rfl
  rw [e]
  refine Finset.sum_congr rfl fun n _ => ?_
  rw [hland, hone]
  have hiff : (some (ix2 (lab n) (ch n) : S4x4.Idx) = some (ix2 g p)) ↔ (lab n = g ∧ ch n = p) := by
    constructor
    · intro h
      have h := Option.some.inj h
      exact ⟨congrFun h 0, congrFun h 1⟩
    · rintro ⟨rfl, rfl⟩; rfl
  by_cases h : lab n = g ∧ ch n = p
  · rw [if_pos (hiff.2 h), if_pos h]; norm_num
  · rw [if_neg (fun h' => h (hiff.1 h')), if_neg h]; norm_num

/-- The smoothed matrix at an entry. -/
theorem smoothed_apply (cm em : FVec Ideal S4x4 .f32) (g p : Fin 4) :
    smoothed (F := Ideal) cm em (ix2 g p) = Ideal.ofBits .f32 0x3F4CCCCD#32 * cm (ix2 g p) + Ideal.ofBits .f32 0x3E4CCCCD#32 * em (ix2 g p) := by
  unfold smoothed
  pointwise

/-- A row's sum without its diagonal entry. -/
theorem mistakes_apply (e : FVec Ideal S4x4 .f32) (g : Fin 4) :
    mistakes (F := Ideal) e (ix1 g) = e (ix2 g 0) + e (ix2 g 1) + e (ix2 g 2) + e (ix2 g 3) - e (ix2 g g) := by
  have hd := diagonal_apply e (joinFour (broadcastInDim S4x1 ![0] bcast_S4_S4x1_0 wrapFour) (broadcastInDim S4x1 ![0] bcast_S4_S4x1_0 wrapFour)) g
    (by rw [joinFour_left, wrapFour_apply]) (by rw [joinFour_right, wrapFour_apply])
  unfold mistakes
  generalize Host.gather gather_S4x4_S4x2_S4_n_01_n_n_01_1_11 e _ = D at hd
  pointwise
  rw [hd, Fin.sum_univ_four]

/-- A class's weight: the greatest number of mistakes over the class's, capped. -/
theorem classWeights_apply (q : FVec Ideal S4 .f32) (g : Fin 4) :
    classWeights (F := Ideal) q (ix1 g) = min (Ideal.div (max (max (q (ix1 0)) (q (ix1 1))) (max (q (ix1 2)) (q (ix1 3)))) (q (ix1 g) + Ideal.ofBits .f32 0x358637BD#32)) (Ideal.ofBits .f32 0x3F99999A#32) := by
  unfold classWeights
  pointwise
  rw [← fold_max_four (fun k => q (ix1 k)), negInf]

/-- A sample's weight is its label's. -/
theorem rowWeights_apply (w : FVec Ideal S4 .f32) (gt : IVec S1048576 32) (n : Fin 1048576) (g : Fin 4) (h : gt (ix1 n) = BitVec.ofNat 32 g.val) :
    rowWeights (F := Ideal) w gt (ix1 n) = w (ix1 g) := by
  unfold rowWeights
  exact weight_apply w _ n g (by rw [column_apply]; exact wrapRow_apply _ _ _ h)

/-- A row's greatest logit. -/
def top (lg : FVec Ideal S1048576x4 .f32) (n : Fin 1048576) : EReal :=
  max (max (lg (ix2 n 0)) (lg (ix2 n 1))) (max (lg (ix2 n 2)) (lg (ix2 n 3)))

/-- The row maximum, folded over the row. -/
theorem rowMax_apply (lg : FVec Ideal S1048576x4 .f32) (n : Fin 1048576) :
    (Host.reduce (FloatOps.maximumf (F := Ideal) (φ := .f32)) lg (constant (F := Ideal) S_ .f32 0xFF800000#32) reducesTo_S1048576x4_S1048576_d1 h_S_ : FVec Ideal S1048576 .f32) (ix1 n) = top lg n := by
  pointwise
  rw [negInf, fold_max_four (fun k => lg (ix2 n k))]
  rfl

/-- The row sum. -/
theorem rowSum_apply (x : FVec Ideal S1048576x4 .f32) (n : Fin 1048576) :
    (Host.reduceAdd x (constant (F := Ideal) S_ .f32 0x00000000#32) reducesTo_S1048576x4_S1048576_d1 h_S_ : FVec Ideal S1048576 .f32) (ix1 n) = x (ix2 n 0) + x (ix2 n 1) + x (ix2 n 2) + x (ix2 n 3) := by
  pointwise
  rw [Fin.sum_univ_four]

/-- The sum over the samples. -/
theorem allSum_apply (x : FVec Ideal S1048576 .f32) (j : S_.Idx) :
    (Host.reduceAdd x (constant (F := Ideal) S_ .f32 0x00000000#32) reducesTo_S1048576_S_d0 h_S_ : FVec Ideal S_ .f32) j = ∑ n : Fin 1048576, x (ix1 n) := by
  pointwise

/-- The logits less a row's number, at an index. -/
theorem less_apply (lg : FVec Ideal S1048576x4 .f32) (R : FVec Ideal S1048576 .f32) (n : Fin 1048576) (k : Fin 4) :
    (subf lg (spread (broadcastInDim S1048576x1 ![0] bcast_S1048576_S1048576x1_0 (maximumf (broadcastInDim S1048576 ![] bcast_S_S1048576 (constant S_ .f32 0xFF800000#32)) R))) : FVec Ideal S1048576x4 .f32) (ix2 n k) = lg (ix2 n k) - R (ix1 n) := by
  unfold spread
  pointwise
  rw [negInf, max_eq_right bot_le]

/-- The shifted logits. -/
theorem shifted_apply (lg : FVec Ideal S1048576x4 .f32) (n : Fin 1048576) (k : Fin 4) :
    shifted (F := Ideal) lg (ix2 n k) = lg (ix2 n k) - top lg n :=
  (less_apply lg _ n k).trans (congrArg (fun t : EReal => (lg (ix2 n k) : EReal) - t) (rowMax_apply lg n))

/-- An array less the logarithm of a row's number, at an index. -/
theorem lessLog_apply (x : FVec Ideal S1048576x4 .f32) (R : FVec Ideal S1048576 .f32) (n : Fin 1048576) (k : Fin 4) :
    (subf x (spread (Host.log (broadcastInDim S1048576x1 ![0] bcast_S1048576_S1048576x1_0 R))) : FVec Ideal S1048576x4 .f32) (ix2 n k) = (x (ix2 n k) : EReal) - Ideal.log (R (ix1 n)) := by
  unfold spread
  pointwise

/-- The row sum of the exponentials. -/
theorem expSum_apply (x : FVec Ideal S1048576x4 .f32) (n : Fin 1048576) :
    (Host.reduceAdd (Host.exp x) (constant (F := Ideal) S_ .f32 0x00000000#32) reducesTo_S1048576x4_S1048576_d1 h_S_ : FVec Ideal S1048576 .f32) (ix1 n) = Ideal.exp (x (ix2 n 0)) + Ideal.exp (x (ix2 n 1)) + Ideal.exp (x (ix2 n 2)) + Ideal.exp (x (ix2 n 3)) :=
  rowSum_apply (Host.exp x) n

/-- The log-probabilities, from the shifted logits. -/
theorem logProbs_shifted (lg : FVec Ideal S1048576x4 .f32) (n : Fin 1048576) (k : Fin 4) :
    logProbs (F := Ideal) lg (ix2 n k) = (shifted (F := Ideal) lg (ix2 n k) : EReal)
      - Ideal.log (Ideal.exp (shifted (F := Ideal) lg (ix2 n 0)) + Ideal.exp (shifted (F := Ideal) lg (ix2 n 1)) + Ideal.exp (shifted (F := Ideal) lg (ix2 n 2)) + Ideal.exp (shifted (F := Ideal) lg (ix2 n 3))) :=
  (lessLog_apply (shifted (F := Ideal) lg) _ n k).trans (congrArg (fun t : EReal => (shifted (F := Ideal) lg (ix2 n k) : EReal) - Ideal.log t) (expSum_apply _ n))

/-- The log-probabilities. -/
theorem logProbs_apply (lg : FVec Ideal S1048576x4 .f32) (n : Fin 1048576) (k : Fin 4) :
    logProbs (F := Ideal) lg (ix2 n k) = (lg (ix2 n k) : EReal) - top lg n
      - Ideal.log (Ideal.exp ((lg (ix2 n 0) : EReal) - top lg n) + Ideal.exp ((lg (ix2 n 1) : EReal) - top lg n) + Ideal.exp ((lg (ix2 n 2) : EReal) - top lg n) + Ideal.exp ((lg (ix2 n 3) : EReal) - top lg n)) := by
  rw [logProbs_shifted, shifted_apply, shifted_apply, shifted_apply, shifted_apply, shifted_apply]

/-- The label indices. -/
theorem labelIndex_apply (gt : IVec S1048576 32) (n : Fin 1048576) (g : Fin 4) (h : gt (ix1 n) = BitVec.ofNat 32 g.val) :
    labelIndex gt (ix3 n 0 0) = BitVec.ofNat 32 g.val := by
  have hc := column_apply gt n 0
  unfold labelIndex
  generalize column gt = C at hc
  pointwise
  rw [hc, h]
  exact wrap_class g

/-- Each row's entry at the sample's label. -/
theorem picked_apply (x : FVec Ideal S1048576x4 .f32) (i : IVec S1048576x1x1 32) (n : Fin 1048576) (g : Fin 4) (h : i (ix3 n 0 0) = BitVec.ofNat 32 g.val) :
    picked (F := Ideal) x i (ix2 n 0) = x (ix2 n g) := by
  have hg := along_apply x i n g h
  unfold picked
  generalize Host.gather gather_S1048576x4_S1048576x1x1_S1048576x1_n_1_0_0_1_2_11 x i = G at hg
  pointwise
  rw [hg]
  have hu : (Finset.univ : Finset (Fin 1)) = {0} := by decide
  have hb : ∀ k : Fin 4, IntOp.andi (IntOp.andi (IntOp.cmpi .sge (BitVec.ofNat 32 k.val) 0#32) (IntOp.cmpi .sle (BitVec.ofNat 32 k.val) 3#32)) 1#1 = 1#1 := by decide
  rw [hu, Finset.fold_singleton, h, hb]
  rfl

/-- The negated column, at an index. -/
theorem negColumn_apply (x : FVec Ideal S1048576x1 .f32) (n : Fin 1048576) :
    (Host.negf (shapeCast S1048576 x shapeCasts_S1048576x1_S1048576) : FVec Ideal S1048576 .f32) (ix1 n) = - (x (ix2 n 0) : EReal) := by
  pointwise

/-- A sample's cross entropy. -/
theorem crossEntropy_apply (lg : FVec Ideal S1048576x4 .f32) (gt : IVec S1048576 32) (n : Fin 1048576) (g : Fin 4) (h : gt (ix1 n) = BitVec.ofNat 32 g.val) :
    crossEntropy (F := Ideal) lg gt (ix1 n) = -(logProbs (F := Ideal) lg (ix2 n g) : EReal) :=
  (negColumn_apply _ n).trans (congrArg (fun t : EReal => -t) (picked_apply _ _ n g (labelIndex_apply gt n g h)))

/-- The quotient of the summed product of two arrays. -/
theorem meanProduct_apply (x y : FVec Ideal S1048576 .f32) (j : S_.Idx) :
    (Host.divf (Host.reduceAdd (mulf x y) (constant (F := Ideal) S_ .f32 0x00000000#32) reducesTo_S1048576_S_d0 h_S_) (constant (F := Ideal) S_ .f32 0x49800000#32) : FVec Ideal S_ .f32) j
      = Ideal.div (∑ n : Fin 1048576, (x (ix1 n) : EReal) * (y (ix1 n) : EReal)) (Ideal.ofBits .f32 0x49800000#32) :=
  congrArg (fun t : EReal => Ideal.div t (Ideal.ofBits .f32 0x49800000#32)) (allSum_apply (mulf x y) j)

/-- The reference's result. -/
theorem meanLoss_apply (lg : FVec Ideal S1048576x4 .f32) (gt : IVec S1048576 32) (em : FVec Ideal S4x4 .f32) (j : S_.Idx) :
    meanLoss (F := Ideal) lg gt em j = Ideal.div (∑ n : Fin 1048576, (crossEntropy (F := Ideal) lg gt (ix1 n) : EReal)
      * (rowWeights (F := Ideal) (classWeights (F := Ideal) (mistakes (F := Ideal) (smoothed (F := Ideal) (confusion (F := Ideal) lg gt) em))) gt (ix1 n) : EReal)) (Ideal.ofBits .f32 0x49800000#32) :=
  meanProduct_apply _ _ j

end Cert.ReferenceIdeal.Value
end
-- ==== Proof.Pre.lean ====
/- What the precondition says of a row and of a label. -/
module
public import proofs.«01_k».proof.Proof.Gen.Pre_rows_bounded_labels_in_range
public import proofs.«01_k».proof.Proof.Stages
public import Idealize.ShloMosaic.Lib.ReduceAll
@[expose] public section
noncomputable section
namespace Cert.Pre_rows_bounded_labels_in_range
open Cert.Pre_rows_bounded_labels_in_range.Gen Idealize.ShloMosaic

/-- A number that passes both comparisons lies strictly between the infinities. -/
theorem between (x : EReal) (h : IntOp.andi (Ideal.cmp .olt x (Ideal.ofBits .f32 0x7F800000#32)) (Ideal.cmp .ogt x (Ideal.ofBits .f32 0xFF800000#32)) = 1#1) : ⊥ < x ∧ x < ⊤ := by
  have ht : Ideal.ofBits .f32 0x7F800000#32 = ⊤ := by simp [Ideal.ofBits, Ideal.ieee]
  rw [ht, Cert.ReferenceIdeal.Value.negInf] at h
  obtain ⟨h1, h2⟩ := IntOp.andi_eq_one.1 h
  have e : ∀ b : Bool, BitVec.ofBool b = 1#1 → b = true := by decide
  exact ⟨of_decide_eq_true (e _ h2), of_decide_eq_true (e _ h1)⟩

/-- A label that passes both comparisons is one of the four classes. -/
theorem within (x : BitVec 32) (h : IntOp.andi (IntOp.cmpi .sge x 0#32) (IntOp.cmpi .slt x 4#32) = 1#1) : ∃ g : Fin 4, x = BitVec.ofNat 32 g.val := by
  obtain ⟨h1, h2⟩ := IntOp.andi_eq_one.1 h
  have h1 := IntOp.cmpi_sge.1 h1
  have h2 := IntOp.cmpi_slt.1 h2
  have e0 : (0#32).toInt = 0 := by decide
  have e4 : (4#32).toInt = 4 := by decide
  rw [e0] at h1
  rw [e4] at h2
  have hx : x = BitVec.ofInt 32 x.toInt := (BitVec.ofInt_toInt).symm
  generalize x.toInt = z at *
  refine ⟨⟨z.toNat, by omega⟩, ?_⟩
  rw [hx]
  have : z = 0 ∨ z = 1 ∨ z = 2 ∨ z = 3 := by omega
  rcases this with rfl | rfl | rfl | rfl <;> rfl

/-- The row test at a row. -/
theorem rowTest (R : FVec Ideal S1048576 .f32) (n : Fin 1048576)
    (h : andi (cmpf .olt R (broadcastInDim S1048576 ![] Facts.bcast_S_S1048576 (constant (F := Ideal) S_ .f32 0x7F800000#32)))
      (cmpf .ogt R (broadcastInDim S1048576 ![] Facts.bcast_S_S1048576 (constant (F := Ideal) S_ .f32 0xFF800000#32))) (ix1 n) = 1#1) :
    ⊥ < (R (ix1 n) : EReal) ∧ (R (ix1 n) : EReal) < ⊤ :=
  between (R (ix1 n)) h

/-- The label test at a label. -/
theorem labelTest (gt : IVec S1048576 32) (n : Fin 1048576)
    (h : andi (cmpi .sge gt (broadcastInDim S1048576 ![] Facts.bcast_S_S1048576 (constantI S_ 32 0#32)))
      (cmpi .slt gt (broadcastInDim S1048576 ![] Facts.bcast_S_S1048576 (constantI S_ 32 4#32))) (ix1 n) = 1#1) :
    ∃ g : Fin 4, gt (ix1 n) = BitVec.ofNat 32 g.val :=
  within (gt (ix1 n)) h

/-- The row maximum, folded over the row. -/
theorem rowMax_apply (lg : FVec Ideal S1048576x4 .f32) (n : Fin 1048576) :
    (Host.reduce (FloatOps.maximumf (F := Ideal) (φ := .f32)) lg (constant (F := Ideal) S_ .f32 0xFF800000#32) Facts.reducesTo_S1048576x4_S1048576_d1 Facts.h_S_ : FVec Ideal S1048576 .f32) (ix1 n) = Cert.ReferenceIdeal.Value.top lg n := by
  pointwise
  rw [Cert.ReferenceIdeal.Value.negInf, Cert.ReferenceIdeal.Value.fold_max_four (fun k => lg (ix2 n k))]
  rfl

/-- A scalar has one index. -/
instance : Subsingleton S_.Idx := ⟨fun a b => funext fun i => i.elim0⟩

/-- The two tests, as reductions over arrays of test results. -/
theorem tests (x y : IVec S1048576 1) (j : S_.Idx)
    (h : andi (Host.reduce IntOp.andi x (constantI S_ 1 1#1) Facts.reducesTo_S1048576_S_d0 Facts.h_S_) (Host.reduce IntOp.andi y (constantI S_ 1 1#1) Facts.reducesTo_S1048576_S_d0 Facts.h_S_) j = 1#1) (n : Fin 1048576) :
    x (ix1 n) = 1#1 ∧ y (ix1 n) = 1#1 := by
  obtain ⟨h1, h2⟩ := IntOp.andi_eq_one.1 h
  exact ⟨Host.reduce_andi_all x _ _ _ j h1 _, Host.reduce_andi_all y _ _ _ j h2 _⟩

/-- Under the precondition every row's maximum is finite and every label is one of the four classes. -/
theorem spec (lg : FVec Ideal S1048576x4 .f32) (gt : IVec S1048576 32) (em : FVec Ideal S4x4 .f32) (h : fn (F := Ideal) lg gt em = fun _ => 1#1) (n : Fin 1048576) :
    (⊥ < Cert.ReferenceIdeal.Value.top lg n ∧ Cert.ReferenceIdeal.Value.top lg n < ⊤) ∧ ∃ g : Fin 4, gt (ix1 n) = BitVec.ofNat 32 g.val := by
  have h0 := congrFun h (fun a => a.elim0)
  unfold fn at h0
  obtain ⟨h1, h2⟩ := tests _ _ _ h0 n
  refine ⟨?_, labelTest gt n h2⟩
  rw [← rowMax_apply lg n]
  exact rowTest _ n h1

end Cert.Pre_rows_bounded_labels_in_range
end
-- ==== Proof.Block.lean ====
/- What one grid point adds to the two scratch arrays, cell by cell. -/
module
public import proofs.«01_k».proof.Proof.Gen.KernelIdeal.Frame
public import Idealize.ShloMosaic.Lib.Pipeline.Value
public import Idealize.ShloMosaic.Lib.Pipeline.ReadBack
public import Idealize.ShloMosaic.Lib.Pipeline.ValueKit
public import Idealize.ShloMosaic.Lib.Pointwise
public import Idealize.ShloMosaic.Lib.Tactic
@[expose] public section
set_option maxRecDepth 16384
noncomputable section
namespace Cert.KernelIdeal.Val
open Cert.KernelIdeal Cert.KernelIdeal.Gen Idealize.ShloMosaic Idealize.ShloMosaic.TcCoe Idealize.SL.Sem
open Idealize.ShloMosaic.Pipeline (Dat)

/-- The largest of a row's four logits. -/
def peak (a b c d : Ideal .f32) : Ideal .f32 := max (max a b) (max c d)

/-- The logit that a label names. -/
def named (t : BitVec 32) (a b c d : Ideal .f32) : Ideal .f32 :=
  Scalar.select (IntOp.cmpi .eq t 0#32) a (Scalar.select (IntOp.cmpi .eq t 1#32) b (Scalar.select (IntOp.cmpi .eq t 2#32) c d))

/-- A row's cross entropy: the logarithm of the sum of exponentials, less the logit of the label. -/
def cost (t : BitVec 32) (a b c d : Ideal .f32) : Ideal .f32 :=
  peak a b c d + Ideal.log (Ideal.exp (a - peak a b c d) + Ideal.exp (b - peak a b c d) + Ideal.exp (c - peak a b c d) + Ideal.exp (d - peak a b c d))
    - named t a b c d

/-- One count in the byte of a row's predicted class, the first that attains the maximum. -/
def ticket (a b c d : Ideal .f32) : BitVec 32 :=
  if a = peak a b c d then 1#32 else if b = peak a b c d then 256#32 else if c = peak a b c d then 65536#32 else 16777216#32

/-- The loss scratch after one block: the row's cost in the layer of its label. -/
def addCost (x0 : Vec Ideal S4x1024x128 .f32) (x1 : Vec Ideal S1024x128 .i32) (z : Vec Ideal S4x1024x128 .f32) : Vec Ideal S4x1024x128 .f32 :=
  fun y => z y + Scalar.select (IntOp.cmpi .eq (x1 (ix2 (y 1) (y 2))) (BitVec.ofNat 32 (y 0).val))
    (cost (x1 (ix2 (y 1) (y 2))) (x0 (ix3 0 (y 1) (y 2))) (x0 (ix3 1 (y 1) (y 2))) (x0 (ix3 2 (y 1) (y 2))) (x0 (ix3 3 (y 1) (y 2)))) (0 : EReal)

/-- The count scratch after one block: the row's ticket in the layer of its label. -/
def addTicket (x0 : Vec Ideal S4x1024x128 .f32) (x1 : Vec Ideal S1024x128 .i32) (z : Vec Ideal S4x1024x128 .i32) : Vec Ideal S4x1024x128 .i32 :=
  fun y => z y + Scalar.select (IntOp.cmpi .eq (x1 (ix2 (y 1) (y 2))) (BitVec.ofNat 32 (y 0).val))
    (ticket (x0 (ix3 0 (y 1) (y 2))) (x0 (ix3 1 (y 1) (y 2))) (x0 (ix3 2 (y 1) (y 2))) (x0 (ix3 3 (y 1) (y 2)))) 0#32

/-- Layer 0 of a stack of four. -/
abbrev layer0 {e : EltTy} (X : Vec Ideal S4x1024x128 e) : Vec Ideal S1x1024x128 e :=
  View.ld X (Rect.unit ![0, 0, 0] S1x1024x128.size inb_S4x1024x128_S1x1024x128_0_0_0)

/-- Layer 0 at a row and a lane. -/
theorem layer0_apply {e : EltTy} (X : Vec Ideal S4x1024x128 e) (r : Fin 1024) (l : Fin 128) :
    layer0 X (ix3 0 r l) = X (ix3 0 r l) :=
  View.ld_unit_apply_of X _ _ _ _ _ (fun a => by fin_cases a <;> simp [ix3])

/-- Where layer 0 places a row and a lane. -/
theorem emb0 (r : Fin 1024) (l : Fin 128) :
    (Rect.unit ![0, 0, 0] S1x1024x128.size inb_S4x1024x128_S1x1024x128_0_0_0 : Rect S4x1024x128).emb (ix3 0 r l) = ix3 0 r l := by
  funext a; apply Fin.ext; rw [Rect.emb_apply]; fin_cases a <;> simp [ix3, Rect.unit]

/-- Layer 1 of a stack of four. -/
abbrev layer1 {e : EltTy} (X : Vec Ideal S4x1024x128 e) : Vec Ideal S1x1024x128 e :=
  View.ld X (Rect.unit ![1, 0, 0] S1x1024x128.size inb_S4x1024x128_S1x1024x128_1_0_0)

/-- Layer 1 at a row and a lane. -/
theorem layer1_apply {e : EltTy} (X : Vec Ideal S4x1024x128 e) (r : Fin 1024) (l : Fin 128) :
    layer1 X (ix3 0 r l) = X (ix3 1 r l) :=
  View.ld_unit_apply_of X _ _ _ _ _ (fun a => by fin_cases a <;> simp [ix3])

/-- Where layer 1 places a row and a lane. -/
theorem emb1 (r : Fin 1024) (l : Fin 128) :
    (Rect.unit ![1, 0, 0] S1x1024x128.size inb_S4x1024x128_S1x1024x128_1_0_0 : Rect S4x1024x128).emb (ix3 0 r l) = ix3 1 r l := by
  funext a; apply Fin.ext; rw [Rect.emb_apply]; fin_cases a <;> simp [ix3, Rect.unit]

/-- Layer 2 of a stack of four. -/
abbrev layer2 {e : EltTy} (X : Vec Ideal S4x1024x128 e) : Vec Ideal S1x1024x128 e :=
  View.ld X (Rect.unit ![2, 0, 0] S1x1024x128.size inb_S4x1024x128_S1x1024x128_2_0_0)

/-- Layer 2 at a row and a lane. -/
theorem layer2_apply {e : EltTy} (X : Vec Ideal S4x1024x128 e) (r : Fin 1024) (l : Fin 128) :
    layer2 X (ix3 0 r l) = X (ix3 2 r l) :=
  View.ld_unit_apply_of X _ _ _ _ _ (fun a => by fin_cases a <;> simp [ix3])

/-- Where layer 2 places a row and a lane. -/
theorem emb2 (r : Fin 1024) (l : Fin 128) :
    (Rect.unit ![2, 0, 0] S1x1024x128.size inb_S4x1024x128_S1x1024x128_2_0_0 : Rect S4x1024x128).emb (ix3 0 r l) = ix3 2 r l := by
  funext a; apply Fin.ext; rw [Rect.emb_apply]; fin_cases a <;> simp [ix3, Rect.unit]

/-- Layer 3 of a stack of four. -/
abbrev layer3 {e : EltTy} (X : Vec Ideal S4x1024x128 e) : Vec Ideal S1x1024x128 e :=
  View.ld X (Rect.unit ![3, 0, 0] S1x1024x128.size inb_S4x1024x128_S1x1024x128_3_0_0)

/-- Layer 3 at a row and a lane. -/
theorem layer3_apply {e : EltTy} (X : Vec Ideal S4x1024x128 e) (r : Fin 1024) (l : Fin 128) :
    layer3 X (ix3 0 r l) = X (ix3 3 r l) :=
  View.ld_unit_apply_of X _ _ _ _ _ (fun a => by fin_cases a <;> simp [ix3])

/-- Where layer 3 places a row and a lane. -/
theorem emb3 (r : Fin 1024) (l : Fin 128) :
    (Rect.unit ![3, 0, 0] S1x1024x128.size inb_S4x1024x128_S1x1024x128_3_0_0 : Rect S4x1024x128).emb (ix3 0 r l) = ix3 3 r l := by
  funext a; apply Fin.ext; rw [Rect.emb_apply]; fin_cases a <;> simp [ix3, Rect.unit]

/-- A word of a loss layer after one block, from the block's layers of logits. -/
def costStep (g : Fin 4) (x1 : Vec Ideal S1024x128 .i32) (V0 V1 V2 V3 Z : Vec Ideal S1x1024x128 .f32) (r : Fin 1024) (l : Fin 128) : Ideal .f32 :=
  Z (ix3 0 r l) + Scalar.select (IntOp.cmpi .eq (x1 (ix2 r l)) (BitVec.ofNat 32 g.val))
    (cost (x1 (ix2 r l)) (V0 (ix3 0 r l)) (V1 (ix3 0 r l)) (V2 (ix3 0 r l)) (V3 (ix3 0 r l))) (0 : EReal)

/-- A word of a count layer after one block, from the block's layers of logits. -/
def ticketStep (g : Fin 4) (x1 : Vec Ideal S1024x128 .i32) (V0 V1 V2 V3 : Vec Ideal S1x1024x128 .f32) (Z : Vec Ideal S1x1024x128 .i32) (r : Fin 1024) (l : Fin 128) : BitVec 32 :=
  Z (ix3 0 r l) + Scalar.select (IntOp.cmpi .eq (x1 (ix2 r l)) (BitVec.ofNat 32 g.val))
    (ticket (V0 (ix3 0 r l)) (V1 (ix3 0 r l)) (V2 (ix3 0 r l)) (V3 (ix3 0 r l))) 0#32

/-- That word, at layer `g` of the whole scratch array. -/
theorem costStep_eq (x0 : Vec Ideal S4x1024x128 .f32) (x1 : Vec Ideal S1024x128 .i32) (z : Vec Ideal S4x1024x128 .f32) (g : Fin 4) (Z : Vec Ideal S1x1024x128 .f32)
    (h : ∀ r l, Z (ix3 0 r l) = z (ix3 g r l)) (r : Fin 1024) (l : Fin 128) :
    costStep g x1 (layer0 x0) (layer1 x0) (layer2 x0) (layer3 x0) Z r l = addCost x0 x1 z (ix3 g r l) := by
  unfold costStep
  rw [h, layer0_apply, layer1_apply, layer2_apply, layer3_apply]
  rfl

/-- That word, at layer `g` of the whole scratch array. -/
theorem ticketStep_eq (x0 : Vec Ideal S4x1024x128 .f32) (x1 : Vec Ideal S1024x128 .i32) (z : Vec Ideal S4x1024x128 .i32) (g : Fin 4) (Z : Vec Ideal S1x1024x128 .i32)
    (h : ∀ r l, Z (ix3 0 r l) = z (ix3 g r l)) (r : Fin 1024) (l : Fin 128) :
    ticketStep g x1 (layer0 x0) (layer1 x0) (layer2 x0) (layer3 x0) Z r l = addTicket x0 x1 z (ix3 g r l) := by
  unfold ticketStep
  rw [h, layer0_apply, layer1_apply, layer2_apply, layer3_apply]
  rfl

/-- What one block computes for the four loss layers. -/
theorem ce_words (V0 V1 V2 V3 : Vec Ideal S1x1024x128 .f32) (x1 : Vec Ideal S1024x128 .i32) (Z : Vec Ideal S1x1024x128 .f32) (r : Fin 1024) (l : Fin 128) :
    k0_pay72 (k0_pay57 V0) (k0_pay58 V1) (k0_pay59 V2) (k0_pay60 V3) (k0_pay61 x1) (k0_pay63 V0 V1 V2 V3) Z (ix3 0 r l) = costStep 0 x1 V0 V1 V2 V3 Z r l
      ∧ k0_pay76 (k0_pay75 (k0_pay57 V0) (k0_pay58 V1) (k0_pay59 V2) (k0_pay60 V3) (k0_pay61 x1) (k0_pay63 V0 V1 V2 V3) Z) (ix3 0 r l) = costStep 1 x1 V0 V1 V2 V3 Z r l
      ∧ k0_pay79 (k0_pay61 x1) (k0_pay68 (k0_pay57 V0) (k0_pay58 V1) (k0_pay59 V2) (k0_pay60 V3) (k0_pay61 x1) (k0_pay63 V0 V1 V2 V3)) (k0_pay69 (F := Ideal)) Z (ix3 0 r l) = costStep 2 x1 V0 V1 V2 V3 Z r l
      ∧ k0_pay1 (k0_pay82 Z) (k0_pay83 (k0_pay61 x1) (k0_pay68 (k0_pay57 V0) (k0_pay58 V1) (k0_pay59 V2) (k0_pay60 V3) (k0_pay61 x1) (k0_pay63 V0 V1 V2 V3)) (k0_pay69 (F := Ideal))) (ix3 0 r l) = costStep 3 x1 V0 V1 V2 V3 Z r l := by
  refine ⟨?_, ?_, ?_, ?_⟩ <;>
  · simp only [k0_pay1, k0_pay2, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
    pointwise
    rfl

/-- What one block computes for the four count layers. -/
theorem h_words (V0 V1 V2 V3 : Vec Ideal S1x1024x128 .f32) (x1 : Vec Ideal S1024x128 .i32) (Z : Vec Ideal S1x1024x128 .i32) (r : Fin 1024) (l : Fin 128) :
    k0_pay73 (k0_pay61 x1) (k0_pay64 V0 V1 V2 V3) (k0_pay65 V0 V1 V2 V3) k0_pay66 Z (ix3 0 r l) = ticketStep 0 x1 V0 V1 V2 V3 Z r l
      ∧ k0_pay77 (k0_pay67 (k0_pay64 V0 V1 V2 V3) (k0_pay65 V0 V1 V2 V3) k0_pay66) k0_pay70 (k0_pay74 (k0_pay61 x1)) Z (ix3 0 r l) = ticketStep 1 x1 V0 V1 V2 V3 Z r l
      ∧ k0_pay80 (k0_pay61 x1) (k0_pay67 (k0_pay64 V0 V1 V2 V3) (k0_pay65 V0 V1 V2 V3) k0_pay66) k0_pay70 Z (ix3 0 r l) = ticketStep 2 x1 V0 V1 V2 V3 Z r l
      ∧ k0_pay2 (k0_pay67 (k0_pay64 V0 V1 V2 V3) (k0_pay65 V0 V1 V2 V3) k0_pay66) k0_pay70 (k0_pay81 (k0_pay61 x1)) Z (ix3 0 r l) = ticketStep 3 x1 V0 V1 V2 V3 Z r l := by
  refine ⟨?_, ?_, ?_, ?_⟩ <;>
  · simp only [k0_pay1, k0_pay2, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
    pointwise
    rfl

/-- What one block leaves in layer 0 of the loss scratch. -/
theorem ce_piece0 (x0 : Vec Ideal S4x1024x128 .f32) (x1 : Vec Ideal S1024x128 .i32) (z : Vec Ideal S4x1024x128 .f32) (j : S1x1024x128.Idx) :
    k0_pay72 (k0_pay57 (layer0 x0)) (k0_pay58 (layer1 x0)) (k0_pay59 (layer2 x0)) (k0_pay60 (layer3 x0)) (k0_pay61 x1) (k0_pay63 (layer0 x0) (layer1 x0) (layer2 x0) (layer3 x0)) (layer0 z) j
      = addCost x0 x1 z ((Rect.unit ![0, 0, 0] S1x1024x128.size inb_S4x1024x128_S1x1024x128_0_0_0 : Rect S4x1024x128).emb j) := by
  idx_vars j
  obtain rfl : j0 = 0 := Subsingleton.elim _ _
  rw [emb0]
  exact (ce_words _ _ _ _ x1 _ j1 j2).1.trans (costStep_eq x0 x1 z 0 _ (layer0_apply z) j1 j2)

/-- What one block leaves in layer 1 of the loss scratch. -/
theorem ce_piece1 (x0 : Vec Ideal S4x1024x128 .f32) (x1 : Vec Ideal S1024x128 .i32) (z : Vec Ideal S4x1024x128 .f32) (j : S1x1024x128.Idx) :
    k0_pay76 (k0_pay75 (k0_pay57 (layer0 x0)) (k0_pay58 (layer1 x0)) (k0_pay59 (layer2 x0)) (k0_pay60 (layer3 x0)) (k0_pay61 x1) (k0_pay63 (layer0 x0) (layer1 x0) (layer2 x0) (layer3 x0)) (layer1 z)) j
      = addCost x0 x1 z ((Rect.unit ![1, 0, 0] S1x1024x128.size inb_S4x1024x128_S1x1024x128_1_0_0 : Rect S4x1024x128).emb j) := by
  idx_vars j
  obtain rfl : j0 = 0 := Subsingleton.elim _ _
  rw [emb1]
  exact (ce_words _ _ _ _ x1 _ j1 j2).2.1.trans (costStep_eq x0 x1 z 1 _ (layer1_apply z) j1 j2)

/-- What one block leaves in layer 2 of the loss scratch. -/
theorem ce_piece2 (x0 : Vec Ideal S4x1024x128 .f32) (x1 : Vec Ideal S1024x128 .i32) (z : Vec Ideal S4x1024x128 .f32) (j : S1x1024x128.Idx) :
    k0_pay79 (k0_pay61 x1) (k0_pay68 (k0_pay57 (layer0 x0)) (k0_pay58 (layer1 x0)) (k0_pay59 (layer2 x0)) (k0_pay60 (layer3 x0)) (k0_pay61 x1) (k0_pay63 (layer0 x0) (layer1 x0) (layer2 x0) (layer3 x0))) (k0_pay69 (F := Ideal)) (layer2 z) j
      = addCost x0 x1 z ((Rect.unit ![2, 0, 0] S1x1024x128.size inb_S4x1024x128_S1x1024x128_2_0_0 : Rect S4x1024x128).emb j) := by
  idx_vars j
  obtain rfl : j0 = 0 := Subsingleton.elim _ _
  rw [emb2]
  exact (ce_words _ _ _ _ x1 _ j1 j2).2.2.1.trans (costStep_eq x0 x1 z 2 _ (layer2_apply z) j1 j2)

/-- What one block leaves in layer 3 of the loss scratch. -/
theorem ce_piece3 (x0 : Vec Ideal S4x1024x128 .f32) (x1 : Vec Ideal S1024x128 .i32) (z : Vec Ideal S4x1024x128 .f32) (j : S1x1024x128.Idx) :
    k0_pay1 (k0_pay82 (layer3 z)) (k0_pay83 (k0_pay61 x1) (k0_pay68 (k0_pay57 (layer0 x0)) (k0_pay58 (layer1 x0)) (k0_pay59 (layer2 x0)) (k0_pay60 (layer3 x0)) (k0_pay61 x1) (k0_pay63 (layer0 x0) (layer1 x0) (layer2 x0) (layer3 x0))) (k0_pay69 (F := Ideal))) j
      = addCost x0 x1 z ((Rect.unit ![3, 0, 0] S1x1024x128.size inb_S4x1024x128_S1x1024x128_3_0_0 : Rect S4x1024x128).emb j) := by
  idx_vars j
  obtain rfl : j0 = 0 := Subsingleton.elim _ _
  rw [emb3]
  exact (ce_words _ _ _ _ x1 _ j1 j2).2.2.2.trans (costStep_eq x0 x1 z 3 _ (layer3_apply z) j1 j2)

/-- What one block leaves in layer 0 of the count scratch. -/
theorem h_piece0 (x0 : Vec Ideal S4x1024x128 .f32) (x1 : Vec Ideal S1024x128 .i32) (z : Vec Ideal S4x1024x128 .i32) (j : S1x1024x128.Idx) :
    k0_pay73 (k0_pay61 x1) (k0_pay64 (layer0 x0) (layer1 x0) (layer2 x0) (layer3 x0)) (k0_pay65 (layer0 x0) (layer1 x0) (layer2 x0) (layer3 x0)) k0_pay66 (layer0 z) j
      = addTicket x0 x1 z ((Rect.unit ![0, 0, 0] S1x1024x128.size inb_S4x1024x128_S1x1024x128_0_0_0 : Rect S4x1024x128).emb j) := by
  idx_vars j
  obtain rfl : j0 = 0 := Subsingleton.elim _ _
  rw [emb0]
  exact (h_words _ _ _ _ x1 _ j1 j2).1.trans (ticketStep_eq x0 x1 z 0 _ (layer0_apply z) j1 j2)

/-- What one block leaves in layer 1 of the count scratch. -/
theorem h_piece1 (x0 : Vec Ideal S4x1024x128 .f32) (x1 : Vec Ideal S1024x128 .i32) (z : Vec Ideal S4x1024x128 .i32) (j : S1x1024x128.Idx) :
    k0_pay77 (k0_pay67 (k0_pay64 (layer0 x0) (layer1 x0) (layer2 x0) (layer3 x0)) (k0_pay65 (layer0 x0) (layer1 x0) (layer2 x0) (layer3 x0)) k0_pay66) k0_pay70 (k0_pay74 (k0_pay61 x1)) (layer1 z) j
      = addTicket x0 x1 z ((Rect.unit ![1, 0, 0] S1x1024x128.size inb_S4x1024x128_S1x1024x128_1_0_0 : Rect S4x1024x128).emb j) := by
  idx_vars j
  obtain rfl : j0 = 0 := Subsingleton.elim _ _
  rw [emb1]
  exact (h_words _ _ _ _ x1 _ j1 j2).2.1.trans (ticketStep_eq x0 x1 z 1 _ (layer1_apply z) j1 j2)

/-- What one block leaves in layer 2 of the count scratch. -/
theorem h_piece2 (x0 : Vec Ideal S4x1024x128 .f32) (x1 : Vec Ideal S1024x128 .i32) (z : Vec Ideal S4x1024x128 .i32) (j : S1x1024x128.Idx) :
    k0_pay80 (k0_pay61 x1) (k0_pay67 (k0_pay64 (layer0 x0) (layer1 x0) (layer2 x0) (layer3 x0)) (k0_pay65 (layer0 x0) (layer1 x0) (layer2 x0) (layer3 x0)) k0_pay66) k0_pay70 (layer2 z) j
      = addTicket x0 x1 z ((Rect.unit ![2, 0, 0] S1x1024x128.size inb_S4x1024x128_S1x1024x128_2_0_0 : Rect S4x1024x128).emb j) := by
  idx_vars j
  obtain rfl : j0 = 0 := Subsingleton.elim _ _
  rw [emb2]
  exact (h_words _ _ _ _ x1 _ j1 j2).2.2.1.trans (ticketStep_eq x0 x1 z 2 _ (layer2_apply z) j1 j2)

/-- What one block leaves in layer 3 of the count scratch. -/
theorem h_piece3 (x0 : Vec Ideal S4x1024x128 .f32) (x1 : Vec Ideal S1024x128 .i32) (z : Vec Ideal S4x1024x128 .i32) (j : S1x1024x128.Idx) :
    k0_pay2 (k0_pay67 (k0_pay64 (layer0 x0) (layer1 x0) (layer2 x0) (layer3 x0)) (k0_pay65 (layer0 x0) (layer1 x0) (layer2 x0) (layer3 x0)) k0_pay66) k0_pay70 (k0_pay81 (k0_pay61 x1)) (layer3 z) j
      = addTicket x0 x1 z ((Rect.unit ![3, 0, 0] S1x1024x128.size inb_S4x1024x128_S1x1024x128_3_0_0 : Rect S4x1024x128).emb j) := by
  idx_vars j
  obtain rfl : j0 = 0 := Subsingleton.elim _ _
  rw [emb3]
  exact (h_words _ _ _ _ x1 _ j1 j2).2.2.2.trans (ticketStep_eq x0 x1 z 3 _ (layer3_apply z) j1 j2)

end Cert.KernelIdeal.Val
end
end
-- ==== Proof.Scratch.lean ====
/- The two scratch arrays after one grid point, in each of its three cases. -/
module
public import proofs.«01_k».proof.Proof.Block
@[expose] public section
set_option maxRecDepth 16384
noncomputable section
namespace Cert.KernelIdeal.Val
open Cert.KernelIdeal Cert.KernelIdeal.Gen Idealize.ShloMosaic Idealize.ShloMosaic.TcCoe Idealize.SL.Sem
open Idealize.ShloMosaic.Pipeline (Dat)

variable (c : Dev nD) (i : grid0.Coords) (arg1 : Memref sig .tc .vmem S4x1024x128 .f32) (harg1 : arg1.IsWhole) (arg2 : Memref sig .tc .vmem S1024x128 .i32) (harg2 : arg2.IsWhole) (arg3 : Memref sig .tc .vmem S1x16 .f32) (harg3 : arg3.IsWhole) (arg4 : Memref sig .tc .vmem S1x1 .f32) (harg4 : arg4.IsWhole) (arg5 : Memref sig .tc .vmem S4x1024x128 .f32) (harg5 : arg5.IsWhole) (arg6 : Memref sig .tc .vmem S4x1024x128 .i32) (harg6 : arg6.IsWhole)
  (x0 : Vec Ideal S4x1024x128 .f32) (x1 : Vec Ideal S1024x128 .i32) (x2 : Vec Ideal S1x16 .f32) (xs0 : Vec Ideal S4x1024x128 .f32) (xs1 : Vec Ideal S4x1024x128 .i32)

/-- A start at the origin, in three coordinates. -/
theorem hz3 : (![0, 0, 0] : Fin 3 → ℕ) = fun _ => 0 := by funext a; fin_cases a <;> rfl

/-- A start at the origin, coordinate by coordinate. -/
theorem hz0 : ∀ a, (![0, 0, 0] : Fin 3 → ℕ) a = 0 := by decide

/-- A start at the origin, in two coordinates. -/
theorem hz2 : (![0, 0] : Fin 2 → ℕ) = fun _ => 0 := by funext a; fin_cases a <;> rfl

/-- Case B: the loss scratch gains the block's contribution. -/
theorem sout_B_0 (hc0 : ¬cond0_0 i) (hc1 : ¬cond0_1 i) :
    sout0_B_0 c i arg1 harg1 arg2 harg2 arg3 harg3 arg4 harg4 arg5 harg5 arg6 harg6 hc0 hc1 x0 x1 x2 xs0 xs1 = addCost x0 x1 xs0 := by
  have hcov := scover0_B_0 c i arg1 harg1 arg2 harg2 arg3 harg3 arg4 harg4 arg5 harg5 arg6 harg6 hc0 hc1 x0 x1 x2 xs0 xs1
  unfold sout0_B_0
  rw [View.read_writes_eq_canon _ _ _ hcov]
  funext y
  have hcy := hcov y
  revert hcy
  unfold kernelRun0_B
  dsimp only
  sl_unfold_words
  simp only [View.readAt_eq_ld, harg1.read_unread, harg2.read_unread, harg5.read_unread, harg6.read_unread]
  rw [View.ld_unit_zero hz2]
  intro hcy
  refine View.canon_apply_of_pieces _ _ ?_ y hcy
  intro p hp x
  simp only [List.mem_cons, List.not_mem_nil, or_false] at hp
  rcases hp with rfl | rfl | rfl | rfl
  · exact ce_piece3 x0 x1 xs0 x
  · exact ce_piece2 x0 x1 xs0 x
  · exact ce_piece1 x0 x1 xs0 x
  · exact ce_piece0 x0 x1 xs0 x

/-- Case B: the count scratch gains the block's contribution. -/
theorem sout_B_1 (hc0 : ¬cond0_0 i) (hc1 : ¬cond0_1 i) :
    sout0_B_1 c i arg1 harg1 arg2 harg2 arg3 harg3 arg4 harg4 arg5 harg5 arg6 harg6 hc0 hc1 x0 x1 x2 xs0 xs1 = addTicket x0 x1 xs1 := by
  have hcov := scover0_B_1 c i arg1 harg1 arg2 harg2 arg3 harg3 arg4 harg4 arg5 harg5 arg6 harg6 hc0 hc1 x0 x1 x2 xs0 xs1
  unfold sout0_B_1
  rw [View.read_writes_eq_canon _ _ _ hcov]
  funext y
  have hcy := hcov y
  revert hcy
  unfold kernelRun0_B
  dsimp only
  sl_unfold_words
  simp only [View.readAt_eq_ld, harg1.read_unread, harg2.read_unread, harg5.read_unread, harg6.read_unread]
  rw [View.ld_unit_zero hz2]
  intro hcy
  refine View.canon_apply_of_pieces _ _ ?_ y hcy
  intro p hp x
  simp only [List.mem_cons, List.not_mem_nil, or_false] at hp
  rcases hp with rfl | rfl | rfl | rfl
  · exact h_piece3 x0 x1 xs1 x
  · exact h_piece2 x0 x1 xs1 x
  · exact h_piece1 x0 x1 xs1 x
  · exact h_piece0 x0 x1 xs1 x

/-- Case C: the loss scratch gains the block's contribution. -/
theorem sout_C_0 (hc0 : ¬cond0_0 i) (hc1 : cond0_1 i) :
    sout0_C_0 c i arg1 harg1 arg2 harg2 arg3 harg3 arg4 harg4 arg5 harg5 arg6 harg6 hc0 hc1 x0 x1 x2 xs0 xs1 = addCost x0 x1 xs0 := by
  have hcov := scover0_C_0 c i arg1 harg1 arg2 harg2 arg3 harg3 arg4 harg4 arg5 harg5 arg6 harg6 hc0 hc1 x0 x1 x2 xs0 xs1
  unfold sout0_C_0
  rw [View.read_writes_eq_canon _ _ _ hcov]
  funext y
  have hcy := hcov y
  revert hcy
  unfold kernelRun0_C
  dsimp only
  sl_unfold_words
  simp only [View.readAt_eq_ld, harg1.read_unread, harg2.read_unread, harg5.read_unread, harg6.read_unread]
  rw [View.ld_unit_zero hz2]
  intro hcy
  refine View.canon_apply_of_pieces _ _ ?_ y hcy
  intro p hp x
  simp only [List.mem_cons, List.not_mem_nil, or_false] at hp
  rcases hp with rfl | rfl | rfl | rfl
  · exact ce_piece3 x0 x1 xs0 x
  · exact ce_piece2 x0 x1 xs0 x
  · exact ce_piece1 x0 x1 xs0 x
  · exact ce_piece0 x0 x1 xs0 x

/-- Case C: the count scratch gains the block's contribution. -/
theorem sout_C_1 (hc0 : ¬cond0_0 i) (hc1 : cond0_1 i) :
    sout0_C_1 c i arg1 harg1 arg2 harg2 arg3 harg3 arg4 harg4 arg5 harg5 arg6 harg6 hc0 hc1 x0 x1 x2 xs0 xs1 = addTicket x0 x1 xs1 := by
  have hcov := scover0_C_1 c i arg1 harg1 arg2 harg2 arg3 harg3 arg4 harg4 arg5 harg5 arg6 harg6 hc0 hc1 x0 x1 x2 xs0 xs1
  unfold sout0_C_1
  rw [View.read_writes_eq_canon _ _ _ hcov]
  funext y
  have hcy := hcov y
  revert hcy
  unfold kernelRun0_C
  dsimp only
  sl_unfold_words
  simp only [View.readAt_eq_ld, harg1.read_unread, harg2.read_unread, harg5.read_unread, harg6.read_unread]
  rw [View.ld_unit_zero hz2]
  intro hcy
  refine View.canon_apply_of_pieces _ _ ?_ y hcy
  intro p hp x
  simp only [List.mem_cons, List.not_mem_nil, or_false] at hp
  rcases hp with rfl | rfl | rfl | rfl
  · exact h_piece3 x0 x1 xs1 x
  · exact h_piece2 x0 x1 xs1 x
  · exact h_piece1 x0 x1 xs1 x
  · exact h_piece0 x0 x1 xs1 x

/-- Case A: the loss scratch is cleared, then gains the block's contribution. -/
theorem sout_A_0 (hc0 : cond0_0 i) (hc1 : ¬cond0_1 i) :
    sout0_A_0 c i arg1 harg1 arg2 harg2 arg3 harg3 arg4 harg4 arg5 harg5 arg6 harg6 hc0 hc1 x0 x1 x2 = addCost x0 x1 (k0_pay55 (F := Ideal)) := by
  have hcov := scover0_A_0 c i arg1 harg1 arg2 harg2 arg3 harg3 arg4 harg4 arg5 harg5 arg6 harg6 hc0 hc1 x0 x1 x2
  unfold sout0_A_0
  rw [View.read_writes_eq_canon _ _ _ hcov]
  clear hcov
  funext y
  unfold kernelRun0_A
  dsimp only
  sl_unfold_words
  simp only [View.readAt_eq_ld, harg1.read_unread, harg2.read_unread]
  rw [View.ld_unit_zero hz2]
  simp (config := { decide := true }) only [↓View.readCov_skip, ↓View.readCov_fill]
  refine View.canon_append_of_piecesOf (addCost x0 x1 (k0_pay55 (F := Ideal))) [_] [_, _, _, _] ⟨?_, ?_, ?_, ?_, trivial⟩ y ?_
  · exact ce_piece3 x0 x1 (k0_pay55 (F := Ideal))
  · exact ce_piece2 x0 x1 (k0_pay55 (F := Ideal))
  · exact ce_piece1 x0 x1 (k0_pay55 (F := Ideal))
  · exact ce_piece0 x0 x1 (k0_pay55 (F := Ideal))
  · exact View.cover_of_tiledL (s := S4x1024x128) _ S1x1024x128.size (by sl_kernel_rfl) y

/-- Case A: the count scratch is cleared, then gains the block's contribution. -/
theorem sout_A_1 (hc0 : cond0_0 i) (hc1 : ¬cond0_1 i) :
    sout0_A_1 c i arg1 harg1 arg2 harg2 arg3 harg3 arg4 harg4 arg5 harg5 arg6 harg6 hc0 hc1 x0 x1 x2 = addTicket x0 x1 (k0_pay56) := by
  have hcov := scover0_A_1 c i arg1 harg1 arg2 harg2 arg3 harg3 arg4 harg4 arg5 harg5 arg6 harg6 hc0 hc1 x0 x1 x2
  unfold sout0_A_1
  rw [View.read_writes_eq_canon _ _ _ hcov]
  clear hcov
  funext y
  unfold kernelRun0_A
  dsimp only
  sl_unfold_words
  simp only [View.readAt_eq_ld, harg1.read_unread, harg2.read_unread]
  rw [View.ld_unit_zero hz2]
  simp (config := { decide := true }) only [↓View.readCov_skip, ↓View.readCov_fill]
  refine View.canon_append_of_piecesOf (addTicket x0 x1 (k0_pay56)) [_] [_, _, _, _] ⟨?_, ?_, ?_, ?_, trivial⟩ y ?_
  · exact h_piece3 x0 x1 (k0_pay56)
  · exact h_piece2 x0 x1 (k0_pay56)
  · exact h_piece1 x0 x1 (k0_pay56)
  · exact h_piece0 x0 x1 (k0_pay56)
  · exact View.cover_of_tiledL (s := S4x1024x128) _ S1x1024x128.size (by sl_kernel_rfl) y

end Cert.KernelIdeal.Val
end
end
-- ==== Proof.Finish.lean ====
/- What the last grid point writes to the output, from the scratch arrays it leaves. -/
module
public import proofs.«01_k».proof.Proof.Scratch
@[expose] public section
set_option maxRecDepth 16384
noncomputable section
namespace Cert.KernelIdeal.Val
open Cert.KernelIdeal Cert.KernelIdeal.Gen Idealize.ShloMosaic Idealize.ShloMosaic.TcCoe Idealize.SL.Sem
open Idealize.ShloMosaic.Pipeline (Dat)

/-- The samples of one class that were predicted as another, counted from one byte of every word of a layer. -/
def tally (H : Vec Ideal S4x1024x128 .i32) (g : Fin 4) (s : BitVec 32) : Ideal .f32 :=
  ∑ r : Fin 1024, ∑ l : Fin 128, FloatOps.sitofp (F := Ideal) .f32 (IntOp.andi (IntOp.shrsi .vector (H (ix3 g r l)) s) 255#32)

/-- One entry of the old confusion matrix, taken by a masked sum. -/
def entry (em : Vec Ideal S1x16 .f32) (k : BitVec 32) : Ideal .f32 :=
  ∑ _x : Fin 1, ∑ x : Fin 16, Scalar.select (IntOp.cmpi .eq (BitVec.ofNat 32 x.val) k) (em (ix2 0 x)) (0 : EReal)

/-- One entry of the smoothed confusion matrix. -/
def blend (n o : Ideal .f32) : Ideal .f32 := Ideal.ofBits .f32 0x3F4CCCCD#32 * n + Ideal.ofBits .f32 0x3E4CCCCD#32 * o

/-- A layer's words, shifted, masked and summed: the tally of the byte. -/
theorem tally_of (H : Vec Ideal S4x1024x128 .i32) (g : Fin 4) (s : BitVec 32) (L : Vec Ideal S1x1024x128 .i32)
    (h : ∀ (r : Fin 1024) (l : Fin 128), L (ix3 0 r l) = H (ix3 g r l)) :
    (∑ r : Fin 1024, ∑ l : Fin 128, FloatOps.sitofp (F := Ideal) .f32 (IntOp.andi (IntOp.shrsi .vector (L (ix3 0 r l)) s) 255#32)) = tally H g s :=
  Finset.sum_congr rfl fun r _ => Finset.sum_congr rfl fun l _ => by rw [h]

/-- The count of label 0 and predicted class 0, as the last step takes it from the scratch. -/
theorem count00 (H : Vec Ideal S4x1024x128 .i32) : k0_pay5 (layer0 H) = tally H 0 0#32 := by
  simp only [k0_pay5]
  pointwise
  exact tally_of H 0 _ _ (layer0_apply H)

/-- The smoothed entry of label 0 and predicted class 0. -/
theorem blend00 (em : Vec Ideal S1x16 .f32) (n : Ideal .f32) : k0_pay24 (k0_pay4 em) (iota Kind.tc S1x16 32 [1] iota_S1x16_d1_w32) n = blend n (entry em 0#32) := by
  simp only [k0_pay24, k0_pay4]
  pointwise
  rfl

/-- The count of label 0 and predicted class 1, as the last step takes it from the scratch. -/
theorem count01 (H : Vec Ideal S4x1024x128 .i32) : k0_pay6 (layer0 H) = tally H 0 8#32 := by
  simp only [k0_pay6]
  pointwise
  exact tally_of H 0 _ _ (layer0_apply H)

/-- The smoothed entry of label 0 and predicted class 1. -/
theorem blend01 (em : Vec Ideal S1x16 .f32) (n : Ideal .f32) : k0_pay28 (k0_pay4 em) (k0_pay25 n) (k0_pay26 (iota Kind.tc S1x16 32 [1] iota_S1x16_d1_w32)) k0_pay27 = blend n (entry em 1#32) := by
  simp only [k0_pay28, k0_pay4, k0_pay25, k0_pay26, k0_pay27]
  pointwise
  rfl

/-- The count of label 0 and predicted class 2, as the last step takes it from the scratch. -/
theorem count02 (H : Vec Ideal S4x1024x128 .i32) : k0_pay7 (layer0 H) = tally H 0 16#32 := by
  simp only [k0_pay7]
  pointwise
  exact tally_of H 0 _ _ (layer0_apply H)

/-- The smoothed entry of label 0 and predicted class 2. -/
theorem blend02 (em : Vec Ideal S1x16 .f32) (n : Ideal .f32) : k0_pay29 (k0_pay4 em) (iota Kind.tc S1x16 32 [1] iota_S1x16_d1_w32) n = blend n (entry em 2#32) := by
  simp only [k0_pay29, k0_pay4]
  pointwise
  rfl

/-- The count of label 0 and predicted class 3, as the last step takes it from the scratch. -/
theorem count03 (H : Vec Ideal S4x1024x128 .i32) : k0_pay8 (layer0 H) = tally H 0 24#32 := by
  simp only [k0_pay8]
  pointwise
  exact tally_of H 0 _ _ (layer0_apply H)

/-- The smoothed entry of label 0 and predicted class 3. -/
theorem blend03 (em : Vec Ideal S1x16 .f32) (n : Ideal .f32) : k0_pay30 (k0_pay4 em) (iota Kind.tc S1x16 32 [1] iota_S1x16_d1_w32) n = blend n (entry em 3#32) := by
  simp only [k0_pay30, k0_pay4]
  pointwise
  rfl

/-- The count of label 1 and predicted class 0, as the last step takes it from the scratch. -/
theorem count10 (H : Vec Ideal S4x1024x128 .i32) : k0_pay9 (layer1 H) = tally H 1 0#32 := by
  simp only [k0_pay9]
  pointwise
  exact tally_of H 1 _ _ (layer1_apply H)

/-- The smoothed entry of label 1 and predicted class 0. -/
theorem blend10 (em : Vec Ideal S1x16 .f32) (n : Ideal .f32) : k0_pay31 (k0_pay4 em) (iota Kind.tc S1x16 32 [1] iota_S1x16_d1_w32) n = blend n (entry em 4#32) := by
  simp only [k0_pay31, k0_pay4]
  pointwise
  rfl

/-- The count of label 1 and predicted class 1, as the last step takes it from the scratch. -/
theorem count11 (H : Vec Ideal S4x1024x128 .i32) : k0_pay10 (layer1 H) = tally H 1 8#32 := by
  simp only [k0_pay10]
  pointwise
  exact tally_of H 1 _ _ (layer1_apply H)

/-- The smoothed entry of label 1 and predicted class 1. -/
theorem blend11 (em : Vec Ideal S1x16 .f32) (n : Ideal .f32) : k0_pay33 (k0_pay4 em) (iota Kind.tc S1x16 32 [1] iota_S1x16_d1_w32) (k0_pay32 n) 5#32 = blend n (entry em 5#32) := by
  simp only [k0_pay33, k0_pay4, k0_pay32]
  pointwise
  rfl

/-- The count of label 1 and predicted class 2, as the last step takes it from the scratch. -/
theorem count12 (H : Vec Ideal S4x1024x128 .i32) : k0_pay12 (k0_pay11 (layer1 H)) = tally H 1 16#32 := by
  simp only [k0_pay12, k0_pay11]
  pointwise
  exact tally_of H 1 _ _ (layer1_apply H)

/-- The smoothed entry of label 1 and predicted class 2. -/
theorem blend12 (em : Vec Ideal S1x16 .f32) (n : Ideal .f32) : k0_pay34 (k0_pay4 em) (iota Kind.tc S1x16 32 [1] iota_S1x16_d1_w32) n = blend n (entry em 6#32) := by
  simp only [k0_pay34, k0_pay4]
  pointwise
  rfl

/-- The count of label 1 and predicted class 3, as the last step takes it from the scratch. -/
theorem count13 (H : Vec Ideal S4x1024x128 .i32) : k0_pay13 (layer1 H) = tally H 1 24#32 := by
  simp only [k0_pay13]
  pointwise
  exact tally_of H 1 _ _ (layer1_apply H)

/-- The smoothed entry of label 1 and predicted class 3. -/
theorem blend13 (em : Vec Ideal S1x16 .f32) (n : Ideal .f32) : k0_pay35 (k0_pay4 em) (iota Kind.tc S1x16 32 [1] iota_S1x16_d1_w32) n = blend n (entry em 7#32) := by
  simp only [k0_pay35, k0_pay4]
  pointwise
  rfl

/-- The count of label 2 and predicted class 0, as the last step takes it from the scratch. -/
theorem count20 (H : Vec Ideal S4x1024x128 .i32) : k0_pay14 (layer2 H) = tally H 2 0#32 := by
  simp only [k0_pay14]
  pointwise
  exact tally_of H 2 _ _ (layer2_apply H)

/-- The smoothed entry of label 2 and predicted class 0. -/
theorem blend20 (em : Vec Ideal S1x16 .f32) (n : Ideal .f32) : k0_pay38 (k0_pay36 n) (k0_pay37 (k0_pay4 em) (iota Kind.tc S1x16 32 [1] iota_S1x16_d1_w32)) = blend n (entry em 8#32) := by
  simp only [k0_pay38, k0_pay36, k0_pay37, k0_pay4]
  pointwise
  rfl

/-- The count of label 2 and predicted class 1, as the last step takes it from the scratch. -/
theorem count21 (H : Vec Ideal S4x1024x128 .i32) : k0_pay15 (layer2 H) = tally H 2 8#32 := by
  simp only [k0_pay15]
  pointwise
  exact tally_of H 2 _ _ (layer2_apply H)

/-- The smoothed entry of label 2 and predicted class 1. -/
theorem blend21 (em : Vec Ideal S1x16 .f32) (n : Ideal .f32) : k0_pay39 (k0_pay4 em) (iota Kind.tc S1x16 32 [1] iota_S1x16_d1_w32) n = blend n (entry em 9#32) := by
  simp only [k0_pay39, k0_pay4]
  pointwise
  rfl

/-- The count of label 2 and predicted class 2, as the last step takes it from the scratch. -/
theorem count22 (H : Vec Ideal S4x1024x128 .i32) : k0_pay17 (k0_pay16 (layer2 H)) = tally H 2 16#32 := by
  simp only [k0_pay17, k0_pay16]
  pointwise
  exact tally_of H 2 _ _ (layer2_apply H)

/-- The smoothed entry of label 2 and predicted class 2. -/
theorem blend22 (em : Vec Ideal S1x16 .f32) (n : Ideal .f32) : k0_pay40 (k0_pay4 em) (iota Kind.tc S1x16 32 [1] iota_S1x16_d1_w32) n = blend n (entry em 10#32) := by
  simp only [k0_pay40, k0_pay4]
  pointwise
  rfl

/-- The count of label 2 and predicted class 3, as the last step takes it from the scratch. -/
theorem count23 (H : Vec Ideal S4x1024x128 .i32) : k0_pay18 (layer2 H) = tally H 2 24#32 := by
  simp only [k0_pay18]
  pointwise
  exact tally_of H 2 _ _ (layer2_apply H)

/-- The smoothed entry of label 2 and predicted class 3. -/
theorem blend23 (em : Vec Ideal S1x16 .f32) (n : Ideal .f32) : k0_pay41 (k0_pay4 em) (iota Kind.tc S1x16 32 [1] iota_S1x16_d1_w32) n = blend n (entry em 11#32) := by
  simp only [k0_pay41, k0_pay4]
  pointwise
  rfl

/-- The count of label 3 and predicted class 0, as the last step takes it from the scratch. -/
theorem count30 (H : Vec Ideal S4x1024x128 .i32) : k0_pay19 (layer3 H) = tally H 3 0#32 := by
  simp only [k0_pay19]
  pointwise
  exact tally_of H 3 _ _ (layer3_apply H)

/-- The smoothed entry of label 3 and predicted class 0. -/
theorem blend30 (em : Vec Ideal S1x16 .f32) (n : Ideal .f32) : k0_pay44 (k0_pay42 n) (k0_pay43 (k0_pay4 em) (iota Kind.tc S1x16 32 [1] iota_S1x16_d1_w32)) = blend n (entry em 12#32) := by
  simp only [k0_pay44, k0_pay42, k0_pay43, k0_pay4]
  pointwise
  rfl

/-- The count of label 3 and predicted class 1, as the last step takes it from the scratch. -/
theorem count31 (H : Vec Ideal S4x1024x128 .i32) : k0_pay21 (k0_pay20 (layer3 H)) = tally H 3 8#32 := by
  simp only [k0_pay21, k0_pay20]
  pointwise
  exact tally_of H 3 _ _ (layer3_apply H)

/-- The smoothed entry of label 3 and predicted class 1. -/
theorem blend31 (em : Vec Ideal S1x16 .f32) (n : Ideal .f32) : k0_pay45 (k0_pay4 em) (iota Kind.tc S1x16 32 [1] iota_S1x16_d1_w32) n = blend n (entry em 13#32) := by
  simp only [k0_pay45, k0_pay4]
  pointwise
  rfl

/-- The count of label 3 and predicted class 2, as the last step takes it from the scratch. -/
theorem count32 (H : Vec Ideal S4x1024x128 .i32) : k0_pay22 (layer3 H) = tally H 3 16#32 := by
  simp only [k0_pay22]
  pointwise
  exact tally_of H 3 _ _ (layer3_apply H)

/-- The smoothed entry of label 3 and predicted class 2. -/
theorem blend32 (em : Vec Ideal S1x16 .f32) (n : Ideal .f32) : k0_pay46 (k0_pay4 em) (iota Kind.tc S1x16 32 [1] iota_S1x16_d1_w32) n = blend n (entry em 14#32) := by
  simp only [k0_pay46, k0_pay4]
  pointwise
  rfl

/-- The count of label 3 and predicted class 3, as the last step takes it from the scratch. -/
theorem count33 (H : Vec Ideal S4x1024x128 .i32) : k0_pay23 (layer3 H) = tally H 3 24#32 := by
  simp only [k0_pay23]
  pointwise
  exact tally_of H 3 _ _ (layer3_apply H)

/-- The smoothed entry of label 3 and predicted class 3. -/
theorem blend33 (em : Vec Ideal S1x16 .f32) (n : Ideal .f32) : k0_pay47 (k0_pay4 em) (iota Kind.tc S1x16 32 [1] iota_S1x16_d1_w32) n = blend n (entry em 15#32) := by
  simp only [k0_pay47, k0_pay4]
  pointwise
  rfl

/-- The samples of a class that are predicted as another class. -/
def miss (a b c d x : Ideal .f32) : Ideal .f32 := a + b + c + d - x

/-- The largest of four. -/
def worst (a b c d : Ideal .f32) : Ideal .f32 := max (max a b) (max c d)

/-- The weight of a class: the worst class's misses over its own, at most 1.2. -/
def weight (w a : Ideal .f32) : Ideal .f32 := min (Ideal.div w (a + Ideal.ofBits .f32 0x358637BD#32)) (Ideal.ofBits .f32 0x3F99999A#32)

/-- One layer of the loss scratch, summed. -/
def level (P : Vec Ideal S4x1024x128 .f32) (g : Fin 4) : Ideal .f32 := ∑ r : Fin 1024, ∑ l : Fin 128, P (ix3 g r l)

/-- The misses of class 0, as the last step forms them. -/
theorem miss0_eq (a b c d : Ideal .f32) : k0_pay48 a b c d = miss a b c d a := by
  simp only [k0_pay48]
  pointwise
  rfl

/-- The misses of class 1, as the last step forms them. -/
theorem miss1_eq (a b c d : Ideal .f32) : k0_pay49 a b c d (FloatOps.ofBits .f32 0#32) = miss a b c d b := by
  simp only [k0_pay49]
  pointwise
  rfl

/-- The misses of class 2, as the last step forms them. -/
theorem miss2_eq (a b c d : Ideal .f32) : k0_pay50 a b c d = miss a b c d c := by
  simp only [k0_pay50]
  pointwise
  rfl

/-- The misses of class 3, as the last step forms them. -/
theorem miss3_eq (a b c d : Ideal .f32) : k0_pay51 a b c d = miss a b c d d := by
  simp only [k0_pay51]
  pointwise
  rfl
section
variable (b0 b1 b2 b3 c0 c1 c2 c3 d0 d1 d2 d3 m : Ideal .f32)
/-- The most misses of a class, as the last step forms them. -/
theorem worst_eq : k0_pay52 b0 b1 b2 b3 c0 c1 c2 c3 d0 d1 d2 d3 m (FloatOps.ofBits .f32 0#32) = worst m (miss b0 b1 b2 b3 b1) (miss c0 c1 c2 c3 c2) (miss d0 d1 d2 d3 d3) := by
  simp only [k0_pay52]
  rw [miss1_eq, miss2_eq, miss3_eq]
  generalize miss b0 b1 b2 b3 b1 = M1
  generalize miss c0 c1 c2 c3 c2 = M2
  generalize miss d0 d1 d2 d3 d3 = M3
  pointwise
  rfl

/-- Layer 0 of the loss scratch, summed. -/
theorem level_eq0 (P : Vec Ideal S4x1024x128 .f32) : (∑ r : Fin 1024, ∑ l : Fin 128, layer0 P (ix3 0 r l)) = level P 0 :=
  Finset.sum_congr rfl fun r _ => Finset.sum_congr rfl fun l _ => layer0_apply P r l

/-- Layer 1 of the loss scratch, summed. -/
theorem level_eq1 (P : Vec Ideal S4x1024x128 .f32) : (∑ r : Fin 1024, ∑ l : Fin 128, layer1 P (ix3 0 r l)) = level P 1 :=
  Finset.sum_congr rfl fun r _ => Finset.sum_congr rfl fun l _ => layer1_apply P r l

/-- Layer 2 of the loss scratch, summed. -/
theorem level_eq2 (P : Vec Ideal S4x1024x128 .f32) : (∑ r : Fin 1024, ∑ l : Fin 128, layer2 P (ix3 0 r l)) = level P 2 :=
  Finset.sum_congr rfl fun r _ => Finset.sum_congr rfl fun l _ => layer2_apply P r l

/-- Layer 3 of the loss scratch, summed. -/
theorem level_eq3 (P : Vec Ideal S4x1024x128 .f32) : (∑ r : Fin 1024, ∑ l : Fin 128, layer3 P (ix3 0 r l)) = level P 3 :=
  Finset.sum_congr rfl fun r _ => Finset.sum_congr rfl fun l _ => layer3_apply P r l

/-- The weighted costs of the first two classes. -/
theorem half_eq (P : Vec Ideal S4x1024x128 .f32) : k0_pay53 b0 b1 b2 b3 c0 c1 c2 c3 d0 d1 d2 d3 m (FloatOps.ofBits .f32 0#32) (layer0 P) (layer1 P) = weight (worst m (miss b0 b1 b2 b3 b1) (miss c0 c1 c2 c3 c2) (miss d0 d1 d2 d3 d3)) m * level P 0 + weight (worst m (miss b0 b1 b2 b3 b1) (miss c0 c1 c2 c3 c2) (miss d0 d1 d2 d3 d3)) (miss b0 b1 b2 b3 b1) * level P 1 := by
  rw [← level_eq0, ← level_eq1]
  generalize layer0 P = P0
  generalize layer1 P = P1
  simp only [k0_pay53]
  rw [worst_eq, miss1_eq]
  generalize worst m (miss b0 b1 b2 b3 b1) (miss c0 c1 c2 c3 c2) (miss d0 d1 d2 d3 d3) = W
  generalize miss b0 b1 b2 b3 b1 = M1
  pointwise
  rfl

/-- The weight of the third class. -/
theorem third_eq : k0_pay54 b0 b1 b2 b3 c0 c1 c2 c3 d0 d1 d2 d3 m (FloatOps.ofBits .f32 0#32) = weight (worst m (miss b0 b1 b2 b3 b1) (miss c0 c1 c2 c3 c2) (miss d0 d1 d2 d3 d3)) (miss c0 c1 c2 c3 c2) := by
  simp only [k0_pay54]
  rw [worst_eq, miss2_eq]
  generalize worst m (miss b0 b1 b2 b3 b1) (miss c0 c1 c2 c3 c2) (miss d0 d1 d2 d3 d3) = W
  generalize miss c0 c1 c2 c3 c2 = M1
  pointwise
  rfl

/-- The weighted costs of all four classes. -/
theorem whole_eq (P : Vec Ideal S4x1024x128 .f32) (n w p t : Ideal .f32) : k0_pay3 n w p t (layer2 P) (layer3 P) = fun _ => p + t * level P 2 + weight w n * level P 3 := by
  rw [← level_eq2, ← level_eq3]
  generalize layer2 P = P0
  generalize layer3 P = P1
  funext j
  simp only [k0_pay3]
  pointwise
  rfl
end
/-- The class weights' average of the summed costs, from the smoothed confusion matrix `e`. -/
def score (e : Fin 4 → Fin 4 → Ideal .f32) (P : Vec Ideal S4x1024x128 .f32) : Ideal .f32 :=
  let m : Fin 4 → Ideal .f32 := fun g => miss (e g 0) (e g 1) (e g 2) (e g 3) (e g g)
  let w : Ideal .f32 := worst (m 0) (m 1) (m 2) (m 3)
  weight w (m 0) * level P 0 + weight w (m 1) * level P 1 + weight w (m 2) * level P 2 + weight w (m 3) * level P 3

/-- The smoothed confusion matrix from the count scratch and the old matrix. -/
def smooth (H : Vec Ideal S4x1024x128 .i32) (em : Vec Ideal S1x16 .f32) (g p : Fin 4) : Ideal .f32 :=
  blend (tally H g (BitVec.ofNat 32 (8 * p.val))) (entry em (BitVec.ofNat 32 (4 * g.val + p.val)))

variable (c : Dev nD) (i : grid0.Coords) (arg1 : Memref sig .tc .vmem S4x1024x128 .f32) (harg1 : arg1.IsWhole) (arg2 : Memref sig .tc .vmem S1024x128 .i32) (harg2 : arg2.IsWhole) (arg3 : Memref sig .tc .vmem S1x16 .f32) (harg3 : arg3.IsWhole) (arg4 : Memref sig .tc .vmem S1x1 .f32) (harg4 : arg4.IsWhole) (arg5 : Memref sig .tc .vmem S4x1024x128 .f32) (harg5 : arg5.IsWhole) (arg6 : Memref sig .tc .vmem S4x1024x128 .i32) (harg6 : arg6.IsWhole)
  (x0 : Vec Ideal S4x1024x128 .f32) (x1 : Vec Ideal S1024x128 .i32) (x2 : Vec Ideal S1x16 .f32) (xs0 : Vec Ideal S4x1024x128 .f32) (xs1 : Vec Ideal S4x1024x128 .i32)

/-- The output of the last grid point. -/
theorem out_C (hc0 : ¬cond0_0 i) (hc1 : cond0_1 i) :
    out0_C_3 c i arg1 harg1 arg2 harg2 arg3 harg3 arg4 harg4 arg5 harg5 arg6 harg6 hc0 hc1 x0 x1 x2 xs0 xs1 (ix2 0 0) = score (smooth (addTicket x0 x1 xs1) x2) (addCost x0 x1 xs0) := by
  have hcov := cover0_C_3 c i arg1 harg1 arg2 harg2 arg3 harg3 arg4 harg4 arg5 harg5 arg6 harg6 hc0 hc1 x0 x1 x2 xs0 xs1
  unfold out0_C_3
  rw [View.read_writes_eq_canon _ _ _ hcov]
  clear hcov
  unfold kernelRun0_C
  dsimp only
  sl_unfold_words
  simp only [View.readAt_eq_ld, harg1.read_unread, harg2.read_unread, harg3.read_unread, harg5.read_unread, harg6.read_unread]
  rw [View.ld_unit_zero hz2, View.ld_unit_zero hz2]
  simp (config := { decide := true }) only [↓View.readCov_skip, View.readCov_cons_toLoadRect]
  rw [View.canon_cons_unit_zero hz2]
  rw [show k0_pay73 (k0_pay61 x1) (k0_pay64 (layer0 x0) (layer1 x0) (layer2 x0) (layer3 x0)) (k0_pay65 (layer0 x0) (layer1 x0) (layer2 x0) (layer3 x0)) k0_pay66 (layer0 xs1) = layer0 (addTicket x0 x1 xs1) from funext (h_piece0 x0 x1 xs1), show k0_pay77 (k0_pay67 (k0_pay64 (layer0 x0) (layer1 x0) (layer2 x0) (layer3 x0)) (k0_pay65 (layer0 x0) (layer1 x0) (layer2 x0) (layer3 x0)) k0_pay66) k0_pay70 (k0_pay74 (k0_pay61 x1)) (layer1 xs1) = layer1 (addTicket x0 x1 xs1) from funext (h_piece1 x0 x1 xs1), show k0_pay80 (k0_pay61 x1) (k0_pay67 (k0_pay64 (layer0 x0) (layer1 x0) (layer2 x0) (layer3 x0)) (k0_pay65 (layer0 x0) (layer1 x0) (layer2 x0) (layer3 x0)) k0_pay66) k0_pay70 (layer2 xs1) = layer2 (addTicket x0 x1 xs1) from funext (h_piece2 x0 x1 xs1), show k0_pay2 (k0_pay67 (k0_pay64 (layer0 x0) (layer1 x0) (layer2 x0) (layer3 x0)) (k0_pay65 (layer0 x0) (layer1 x0) (layer2 x0) (layer3 x0)) k0_pay66) k0_pay70 (k0_pay81 (k0_pay61 x1)) (layer3 xs1) = layer3 (addTicket x0 x1 xs1) from funext (h_piece3 x0 x1 xs1), show k0_pay72 (k0_pay57 (layer0 x0)) (k0_pay58 (layer1 x0)) (k0_pay59 (layer2 x0)) (k0_pay60 (layer3 x0)) (k0_pay61 x1) (k0_pay63 (layer0 x0) (layer1 x0) (layer2 x0) (layer3 x0)) (layer0 xs0) = layer0 (addCost x0 x1 xs0) from funext (ce_piece0 x0 x1 xs0), show k0_pay76 (k0_pay75 (k0_pay57 (layer0 x0)) (k0_pay58 (layer1 x0)) (k0_pay59 (layer2 x0)) (k0_pay60 (layer3 x0)) (k0_pay61 x1) (k0_pay63 (layer0 x0) (layer1 x0) (layer2 x0) (layer3 x0)) (layer1 xs0)) = layer1 (addCost x0 x1 xs0) from funext (ce_piece1 x0 x1 xs0), show k0_pay79 (k0_pay61 x1) (k0_pay68 (k0_pay57 (layer0 x0)) (k0_pay58 (layer1 x0)) (k0_pay59 (layer2 x0)) (k0_pay60 (layer3 x0)) (k0_pay61 x1) (k0_pay63 (layer0 x0) (layer1 x0) (layer2 x0) (layer3 x0))) (k0_pay69 (F := Ideal)) (layer2 xs0) = layer2 (addCost x0 x1 xs0) from funext (ce_piece2 x0 x1 xs0), show k0_pay1 (k0_pay82 (layer3 xs0)) (k0_pay83 (k0_pay61 x1) (k0_pay68 (k0_pay57 (layer0 x0)) (k0_pay58 (layer1 x0)) (k0_pay59 (layer2 x0)) (k0_pay60 (layer3 x0)) (k0_pay61 x1) (k0_pay63 (layer0 x0) (layer1 x0) (layer2 x0) (layer3 x0))) (k0_pay69 (F := Ideal))) = layer3 (addCost x0 x1 xs0) from funext (ce_piece3 x0 x1 xs0)]
  rw [count00, count01, count02, count03, count10, count11, count12, count13, count20, count21, count22, count23, count30, count31, count32, count33, blend00, blend01, blend02, blend03, blend10, blend11, blend12, blend13, blend20, blend21, blend22, blend23, blend30, blend31, blend32, blend33]
  rw [miss0_eq, half_eq, third_eq, worst_eq, miss3_eq, whole_eq]
  rfl

end Cert.KernelIdeal.Val
end
end
-- ==== Proof.Bytes.lean ====
/- Four counts packed in one word, and the order in which the blocks visit the samples. -/
module
public import Idealize.ShloMosaic.Lib.Pointwise
public import Idealize.ShloMosaic.Lib.Tactic
@[expose] public section
noncomputable section
namespace Cert.Tally
open Idealize.ShloMosaic

/-- Four counts, one to a byte. -/
def pack (q : Fin 4 → ℕ) : ℕ := q 0 + 256 * q 1 + 65536 * q 2 + 16777216 * q 3

/-- Packing adds count by count. -/
theorem pack_add (q q' : Fin 4 → ℕ) : pack (fun p => q p + q' p) = pack q + pack q' := by
  unfold pack; ring

/-- With every count at most eight, shifting and masking the word gives the count back. -/
theorem unpack_nat (q : Fin 4 → ℕ) (hq : ∀ p, q p ≤ 8) (p : Fin 4) :
    (IntOp.andi (IntOp.shrsi .vector (BitVec.ofNat 32 (pack q)) (BitVec.ofNat 32 (8 * p.val))) 255#32).toNat = q p := by
  have h0 := hq 0; have h1 := hq 1; have h2 := hq 2; have h3 := hq 3
  have hlt : pack q < 2 ^ 31 := by unfold pack; omega
  have hn : (BitVec.ofNat 32 (pack q)).toNat = pack q := by rw [BitVec.toNat_ofNat]; exact Nat.mod_eq_of_lt (by omega)
  have hm : (BitVec.ofNat 32 (pack q)).msb = false := by rw [BitVec.msb_eq_false_iff_two_mul_lt, hn]; omega
  have hs : (BitVec.ofNat 32 (8 * p.val)).toNat = 8 * p.val := by rw [BitVec.toNat_ofNat]; exact Nat.mod_eq_of_lt (by omega)
  unfold IntOp.andi IntOp.shrsi
  rw [hs, if_pos (by omega)]
  unfold BitVec.sshiftRight'
  rw [hs, BitVec.sshiftRight_eq_of_msb_false hm, BitVec.toNat_and, BitVec.toNat_ushiftRight, hn]
  rw [show (255#32).toNat = 2 ^ 8 - 1 from rfl, Nat.and_two_pow_sub_one_eq_mod, Nat.shiftRight_eq_div_pow]
  unfold pack
  match p with
  | ⟨0, _⟩ => show _ / 2 ^ 0 % 2 ^ 8 = q 0; omega
  | ⟨1, _⟩ => show _ / 2 ^ 8 % 2 ^ 8 = q 1; omega
  | ⟨2, _⟩ => show _ / 2 ^ 16 % 2 ^ 8 = q 2; omega
  | ⟨3, _⟩ => show _ / 2 ^ 24 % 2 ^ 8 = q 3; omega

/-- The same, as the number the kernel sums. -/
theorem unpack (q : Fin 4 → ℕ) (hq : ∀ p, q p ≤ 8) (p : Fin 4) :
    FloatOps.sitofp (F := Ideal) .f32 (IntOp.andi (IntOp.shrsi .vector (BitVec.ofNat 32 (pack q)) (BitVec.ofNat 32 (8 * p.val))) 255#32)
      = (((q p : ℕ) : ℝ) : EReal) := by
  have h := unpack_nat q hq p
  have h8 := hq p
  generalize IntOp.andi (IntOp.shrsi .vector (BitVec.ofNat 32 (pack q)) (BitVec.ofNat 32 (8 * p.val))) 255#32 = x at h
  have hi : x.toInt = (q p : ℤ) := by rw [BitVec.toInt_eq_toNat_of_lt (by omega), h]
  show ((x.toInt : ℝ) : EReal) = _
  rw [hi]
  norm_cast

/-- Sample `l` of row `r` of block `t`. -/
def place (t : ℕ) (ht : t < 8) (r : Fin 1024) (l : Fin 128) : Fin 1048576 := ⟨(t * 1024 + r.val) * 128 + l.val, by omega⟩

/-- The samples, by row of a block, lane and block. -/
def samples : (Fin 1024 × Fin 128) × Fin 8 ≃ Fin 1048576 where
  toFun x := place x.2.val x.2.isLt x.1.1 x.1.2
  invFun n := ((⟨n.val / 128 % 1024, by omega⟩, ⟨n.val % 128, by omega⟩), ⟨n.val / 131072, by omega⟩)
  left_inv := by
    rintro ⟨⟨r, l⟩, t⟩
    refine Prod.ext (Prod.ext (Fin.ext ?_) (Fin.ext ?_)) (Fin.ext ?_)
    · show ((t.val * 1024 + r.val) * 128 + l.val) / 128 % 1024 = r.val; omega
    · show ((t.val * 1024 + r.val) * 128 + l.val) % 128 = l.val; omega
    · show ((t.val * 1024 + r.val) * 128 + l.val) / 131072 = t.val; omega
  right_inv n := by
    refine Fin.ext ?_
    show (n.val / 131072 * 1024 + n.val / 128 % 1024) * 128 + n.val % 128 = n.val
    omega

/-- A sum over the blocks' rows and lanes is the sum over all samples. -/
theorem sum_samples {M : Type} [AddCommMonoid M] (f : Fin 1048576 → M) :
    ∑ r : Fin 1024, ∑ l : Fin 128, ∑ t : Fin 8, f (place t.val t.isLt r l) = ∑ n, f n := by
  rw [← Equiv.sum_comp samples f, Fintype.sum_prod_type, Fintype.sum_prod_type]
  rfl

/-- A sum of eight counts, taken as a real number, is the sum of the counts so taken. -/
theorem cast_sum (f : Fin 8 → ℕ) : (((∑ t, f t : ℕ) : ℝ) : EReal) = ∑ t, ((f t : ℝ) : EReal) := by
  simp only [Fin.sum_univ_eight]
  push_cast
  rfl

/-- A sum of nonnegative extended reals times a factor, taken inside. -/
theorem mul_sum_of_nonneg {ι : Type} (s : Finset ι) (w : EReal) (f : ι → EReal) (hf : ∀ i ∈ s, 0 ≤ f i) :
    w * ∑ i ∈ s, f i = ∑ i ∈ s, w * f i := by
  classical
  induction s using Finset.induction_on with
  | empty => simp
  | insert a s ha ih =>
    rw [Finset.sum_insert ha, Finset.sum_insert ha, EReal.left_distrib_of_nonneg (hf a (Finset.mem_insert_self ..)) (Finset.sum_nonneg fun i hi => hf i (Finset.mem_insert_of_mem hi)),
      ih fun i hi => hf i (Finset.mem_insert_of_mem hi)]

end Cert.Tally
end
-- ==== Proof.KernelRun.lean ====
/- The kernel's run, read: the scratch arrays point by point, the one output word, and the result. -/
module
public import proofs.«01_k».proof.Proof.Finish
public import proofs.«01_k».proof.Proof.Bytes
@[expose] public section
set_option maxRecDepth 16384
noncomputable section
namespace Cert.KernelIdeal.Val
open Cert.KernelIdeal Cert.KernelIdeal.Gen Idealize.ShloMosaic Idealize.ShloMosaic.TcCoe Idealize.SL.Sem
open Idealize.ShloMosaic.Pipeline (Dat)
open Cert.Tally (place)

variable (m : (ℓ : Loc nD τ sig) → Buf (Elt Ideal) ℓ) (ρ : Dev nD → PrngReg)

/-- The loss scratch after point `n`. -/
def lossAfter (c : Dev nD) : (n : ℕ) → n < cfg0.N → Vec Ideal S4x1024x128 .f32
  | 0, h => addCost (iblk m c 0 ⟨0, h⟩) (iblk m c 1 ⟨0, h⟩) (k0_pay55 (F := Ideal))
  | n + 1, h => addCost (iblk m c 0 ⟨n + 1, h⟩) (iblk m c 1 ⟨n + 1, h⟩) (lossAfter c n (Nat.lt_of_succ_lt h))

/-- The count scratch after point `n`. -/
def countAfter (c : Dev nD) : (n : ℕ) → n < cfg0.N → Vec Ideal S4x1024x128 .i32
  | 0, h => addTicket (iblk m c 0 ⟨0, h⟩) (iblk m c 1 ⟨0, h⟩) k0_pay56
  | n + 1, h => addTicket (iblk m c 0 ⟨n + 1, h⟩) (iblk m c 1 ⟨n + 1, h⟩) (countAfter c n (Nat.lt_of_succ_lt h))

/-- The scratch arrays hold these two after every point. -/
theorem scratch_eq (c : Dev nD) : ∀ (n : ℕ) (h : n < cfg0.N), (outsAt0 m c n h).2 = (lossAfter m c n h, countAfter m c n h)
  | 0, h => by
    rw [outsAt0_A m c ⟨0, h⟩ rfl (by dsimp only; omega)]
    dsimp only
    rw [sout_A_0, sout_A_1]
    rfl
  | n + 1, h => by
    have hN : cfg0.N = 8 := N_0
    have ih := scratch_eq c n (Nat.lt_of_succ_lt h)
    have h0 : ¬(⟨n + 1, h⟩ : Fin cfg0.N).val % 8 = 0 := by dsimp only; omega
    by_cases h1 : (⟨n + 1, h⟩ : Fin cfg0.N).val % 8 = 7
    · rw [outsAt0_C m c ⟨n + 1, h⟩ h0 h1]
      dsimp only
      rw [sout_C_0, sout_C_1]
      show (addCost _ _ (outsAt0 m c n _).2.1, addTicket _ _ (outsAt0 m c n _).2.2) = _
      rw [ih]
      rfl
    · rw [outsAt0_B m c ⟨n + 1, h⟩ h0 h1]
      dsimp only
      rw [sout_B_0, sout_B_1]
      show (addCost _ _ (outsAt0 m c n _).2.1, addTicket _ _ (outsAt0 m c n _).2.2) = _
      rw [ih]
      rfl

/-- The last grid point is the eighth. -/
theorem seven_lt : 7 < cfg0.N := by rw [show cfg0.N = 8 from N_0]; decide

/-- The summed loss, from the scratch arrays after the last point. -/
def total (c : Dev nD) : Ideal .f32 :=
  score (smooth (countAfter m c 7 seven_lt) (iblk m c 2 t0_7)) (lossAfter m c 7 seven_lt)

/-- The last point leaves the summed loss in the output's one word. -/
theorem out_eq (c : Dev nD) : (outsAt0 m c 7 seven_lt).1 (ix2 0 0) = total m c := by
  have ih := scratch_eq m c 6 (Nat.lt_of_succ_lt seven_lt)
  rw [show outsAt0 m c 7 seven_lt = _ from outsAt0_C m c t0_7 (by decide) (by decide)]
  dsimp only
  rw [out_C]
  show score (smooth (addTicket _ _ (outsAt0 m c 6 _).2.2) _) (addCost _ _ (outsAt0 m c 6 _).2.1) = _
  rw [ih]
  rfl

/-- The output array at the end: the summed loss in its one word. -/
def outArr (c : Dev nD) : Buf (Elt Ideal) ((c : Thread nD τ).loc main_v4) := (outsAt0 m c 7 seven_lt).1

/-- The one write-back, at the last point, writes it. -/
theorem flushed_eq (c : Dev nD) (t : Fin cfg0.N) (hf : (cfg0.win 3).flush t = true) :
    (dats m 0 c).flushed 3 t = ((cfg0.win 3).blk t).view.read (Elt Ideal) (outArr m c) := by
  have hN : cfg0.N = 8 := N_0
  have h7 : t.val = 7 := by have := (flush0_3 t).mp hf; have := t.isLt; omega
  obtain rfl : t = t0_7 := Fin.ext h7
  show (cfg0.win 3).cut (grid0.coords t0_7) ((dats m 0 c).after 3 t0_7) = _
  rw [after0_3]
  have hz' : (fun a => win0_3.index t0_7 a * main_v4.ty.shape.size a) = fun _ => 0 := funext fun a => by fin_cases a <;> decide +kernel
  exact (Memref.read_access_unit_zero (Elt Ideal) main_v4 hz' (fun a => by rw [congrFun hz' a]; simp) (outArr m c)).symm

/-- So the output array ends holding it. -/
theorem final_eq (c : Dev nD) : (dats m 0 c).arrAt 3 cfg0.N = outArr m c :=
  (dats m 0 c).arrAt_eq_of_cover 3 (outArr m c) (flushed_eq m c) fun i =>
    ⟨t0_7, (flush0_3 t0_7).mpr rfl, by
      show i ∈ ((View.whole main_v4).slice (win0_3.rect t0_7)).set
      rw [View.set_slice_whole, Rect.mem_set_unit]
      intro a
      have h0 : (i 0 : Nat) < 1 := (i 0).isLt
      have h1 : (i 1 : Nat) < 1 := (i 1).isLt
      match a with
      | ⟨0, _⟩ => show win0_3.index t0_7 0 * win0_3.size 0 ≤ (i 0 : Nat) ∧ (i 0 : Nat) < win0_3.index t0_7 0 * win0_3.size 0 + win0_3.xsize (grid0.coords t0_7) 0
                  rw [show win0_3.index t0_7 0 * win0_3.size 0 = 0 from by decide +kernel, show win0_3.xsize (grid0.coords t0_7) 0 = 1 from by decide +kernel]; omega
      | ⟨1, _⟩ => show win0_3.index t0_7 1 * win0_3.size 1 ≤ (i 1 : Nat) ∧ (i 1 : Nat) < win0_3.index t0_7 1 * win0_3.size 1 + win0_3.xsize (grid0.coords t0_7) 1
                  rw [show win0_3.index t0_7 1 * win0_3.size 1 = 0 from by decide +kernel, show win0_3.xsize (grid0.coords t0_7) 1 = 1 from by decide +kernel]; omega⟩

/-- The result: the summed loss over the number of samples. -/
def result (c : Dev nD) : FVec Ideal S_ .f32 := fun _ => Ideal.div (total m c) (Ideal.ofBits .f32 0x49800000#32)

/-- The lines after the region leave it. -/
theorem tail_eq (c : Dev nD) : Pipeline.afterTail₀ cfgs (dats m) 0 (V0 m) [hostOps1] c main_v6 = result m c := by
  unfold Pipeline.afterTail₀
  rw [show (List.flatten [hostOps1 (F := Ideal)]) = hostOps1 from rfl]
  after_results
  have e : Pipeline.withArrays (cfgs (0 : Fin 1)).spec c (V0 m c) (fun w => (dats m 0 c).arrAt w (cfgs (0 : Fin 1)).N) (Proc.devRef .tc main_v4) = outArr m c :=
    (Pipeline.withArrays_arr spec0 launch0.win.arr_inj c (V0 m c) _ 3).trans (final_eq m c)
  rw [e]
  funext j
  have e2 : ∀ W : S1x1.Idx → EReal, shapeCast S_ W shapeCasts_S1x1_S_ j = W (ix2 0 0) := by
    intro W
    unfold shapeCast
    exact congrArg W (funext fun a => by fin_cases a <;> exact Subsingleton.elim (α := Fin 1) _ _)
  have e3 : shapeCast S_ (outArr m c : S1x1.Idx → EReal) shapeCasts_S1x1_S_ j = total m c := (e2 _).trans (out_eq m c)
  show Ideal.div (shapeCast S_ (outArr m c : S1x1.Idx → EReal) shapeCasts_S1x1_S_ j) _ = _
  rw [e3]
  rfl

/-- The kernel's run: the result, and the arguments unchanged. -/
theorem run : θ_run defs (onTc (τ := τ) (main (F := Ideal))) ⟨m, fun _ => 0, ρ⟩ fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩) (run_main m ρ)

/-- The logits as the region finds them. -/
theorem V_logits (c : Dev nD) : (V m c main_v1 : Vec Ideal S4x8192x128 .f32) =
    transpose S4x8192x128 [2, 0, 1] (shapeCast S8192x128x4 (m ((c.tc : Thread nD τ).loc main_arg0)) shapeCasts_S1048576x4_S8192x128x4) transposes_S8192x128x4_S4x8192x128_2_0_1 := by
  unfold V V0
  rw [show (List.flatten [hostOps0 (F := Ideal)]) = hostOps0 from rfl]
  after_results
  rfl

/-- The labels as the region finds them: in rows of 128. -/
theorem V_labels (c : Dev nD) : (V m c main_v2 : Vec Ideal S8192x128 .i32) = shapeCast S8192x128 (m ((c.tc : Thread nD τ).loc main_arg1)) shapeCasts_S1048576_S8192x128 := by
  unfold V V0
  rw [show (List.flatten [hostOps0 (F := Ideal)]) = hostOps0 from rfl]
  after_results
  rfl

/-- The old matrix as the region finds it: in one row. -/
theorem V_old (c : Dev nD) : (V m c main_v3 : Vec Ideal S1x16 .f32) = shapeCast S1x16 (m ((c.tc : Thread nD τ).loc main_arg2)) shapeCasts_S4x4_S1x16 := by
  unfold V V0
  rw [show (List.flatten [hostOps0 (F := Ideal)]) = hostOps0 from rfl]
  after_results
  rfl

/-- The logits in the region's layout: class, row of 128 samples, lane. -/
theorem logits_apply (c : Dev nD) (g : Fin 4) (R : Fin 8192) (l : Fin 128) :
    (V m c main_v1 : Vec Ideal S4x8192x128 .f32) (ix3 g R l) = (m ((c.tc : Thread nD τ).loc main_arg0) : Vec Ideal S1048576x4 .f32) (ix2 ⟨R.val * 128 + l.val, by omega⟩ g) := by
  rw [V_logits]
  refine (transpose_apply [2, 0, 1] _ transposes_S8192x128x4_S4x8192x128_2_0_1 (ix3 g R l) (ix3 R l g) (fun b => by fin_cases b <;> rfl)).trans ?_
  refine shapeCast_apply _ _ _ _ ?_
  show (S1048576x4.rowMajor (ix2 ⟨R.val * 128 + l.val, by omega⟩ g)).val = (S8192x128x4.rowMajor (ix3 R l g)).val
  rw [Shape.rowMajor_val_two, Shape.rowMajor_val_three]
  rfl

/-- A label, by row and lane. -/
theorem labels_apply (c : Dev nD) (R : Fin 8192) (l : Fin 128) :
    (V m c main_v2 : Vec Ideal S8192x128 .i32) (ix2 R l) = (m ((c.tc : Thread nD τ).loc main_arg1) : Vec Ideal S1048576 .i32) (ix1 ⟨R.val * 128 + l.val, by omega⟩) := by
  rw [V_labels]
  generalize (m ((c.tc : Thread nD τ).loc main_arg1) : Vec Ideal S1048576 .i32) = X
  pointwise

/-- An entry of the old matrix, by its place in the row. -/
theorem old_apply (c : Dev nD) (k : Fin 16) :
    (V m c main_v3 : Vec Ideal S1x16 .f32) (ix2 0 k) = (m ((c.tc : Thread nD τ).loc main_arg2) : Vec Ideal S4x4 .f32) (ix2 ⟨k.val / 4, by omega⟩ ⟨k.val % 4, by omega⟩) := by
  rw [V_old]
  generalize (m ((c.tc : Thread nD τ).loc main_arg2) : Vec Ideal S4x4 .f32) = X
  pointwise

/-- The block of the logits at a grid point. -/
theorem index0_0 : ∀ t : Fin grid0.N, win0_0.index t 0 = 0 ∧ win0_0.index t 1 = t.val ∧ win0_0.index t 2 = 0 := by decide +kernel

/-- The block of the labels at a grid point. -/
theorem index0_1 : ∀ t : Fin grid0.N, win0_1.index t 0 = t.val ∧ win0_1.index t 1 = 0 := by decide +kernel

/-- The block of the old matrix at a grid point. -/
theorem index0_2 : ∀ t : Fin grid0.N, win0_2.index t 0 = 0 ∧ win0_2.index t 1 = 0 := by decide +kernel

/-- The logits' block at a point. -/
theorem logits_block (c : Dev nD) (t : Fin cfg0.N) (ht : t.val < 8) (g : Fin 4) (r : Fin 1024) (l : Fin 128) :
    (iblk m c 0 t : Vec Ideal S4x1024x128 .f32) (ix3 g r l) = (m ((c.tc : Thread nD τ).loc main_arg0) : Vec Ideal S1048576x4 .f32) (ix2 (place t.val ht r l) g) := by
  have hi := index0_0 t
  rw [show (m ((c.tc : Thread nD τ).loc main_arg0) : Vec Ideal S1048576x4 .f32) (ix2 (place t.val ht r l) g) = _ from (logits_apply m c g ⟨t.val * 1024 + r.val, by omega⟩ l).symm]
  unfold iblk
  rw [View.read_apply]
  refine congrArg (V m c main_v1 : Vec Ideal S4x8192x128 .f32) ?_
  funext a
  apply Fin.ext
  match a with
  | ⟨0, _⟩ => show win0_0.index t 0 * 4 + 1 * g.val = g.val; rw [hi.1]; omega
  | ⟨1, _⟩ => show win0_0.index t 1 * 1024 + 1 * r.val = t.val * 1024 + r.val; rw [hi.2.1]; omega
  | ⟨2, _⟩ => show win0_0.index t 2 * 128 + 1 * l.val = l.val; rw [hi.2.2]; omega

/-- The labels' block at a point. -/
theorem labels_block (c : Dev nD) (t : Fin cfg0.N) (ht : t.val < 8) (r : Fin 1024) (l : Fin 128) :
    (iblk m c 1 t : Vec Ideal S1024x128 .i32) (ix2 r l) = (m ((c.tc : Thread nD τ).loc main_arg1) : Vec Ideal S1048576 .i32) (ix1 (place t.val ht r l)) := by
  have hi := index0_1 t
  rw [show (m ((c.tc : Thread nD τ).loc main_arg1) : Vec Ideal S1048576 .i32) (ix1 (place t.val ht r l)) = _ from (labels_apply m c ⟨t.val * 1024 + r.val, by omega⟩ l).symm]
  unfold iblk
  rw [View.read_apply]
  refine congrArg (V m c main_v2 : Vec Ideal S8192x128 .i32) ?_
  funext a
  apply Fin.ext
  match a with
  | ⟨0, _⟩ => show win0_1.index t 0 * 1024 + 1 * r.val = t.val * 1024 + r.val; rw [hi.1]; omega
  | ⟨1, _⟩ => show win0_1.index t 1 * 128 + 1 * l.val = l.val; rw [hi.2]; omega

/-- The old confusion matrix's block at a point: all of it, in one row. -/
theorem old_block (c : Dev nD) (t : Fin cfg0.N) (k : Fin 16) :
    (iblk m c 2 t : Vec Ideal S1x16 .f32) (ix2 0 k) = (m ((c.tc : Thread nD τ).loc main_arg2) : Vec Ideal S4x4 .f32) (ix2 ⟨k.val / 4, by omega⟩ ⟨k.val % 4, by omega⟩) := by
  have hi := index0_2 t
  rw [show (m ((c.tc : Thread nD τ).loc main_arg2) : Vec Ideal S4x4 .f32) (ix2 ⟨k.val / 4, by omega⟩ ⟨k.val % 4, by omega⟩) = _ from (old_apply m c k).symm]
  unfold iblk
  rw [View.read_apply]
  refine congrArg (V m c main_v3 : Vec Ideal S1x16 .f32) ?_
  funext a
  apply Fin.ext
  match a with
  | ⟨0, _⟩ => show win0_2.index t 0 * 1 + 1 * 0 = 0; rw [hi.1]
  | ⟨1, _⟩ => show win0_2.index t 1 * 16 + 1 * k.val = k.val; rw [hi.2]; omega

end Cert.KernelIdeal.Val
end
end
-- ==== Proof.Counts.lean ====
/- What the scratch arrays hold after the last point, as counts and sums over the samples. -/
module
public import proofs.«01_k».proof.Proof.KernelRun
@[expose] public section
set_option maxRecDepth 16384
noncomputable section
namespace Cert.KernelIdeal.Val
open Cert.KernelIdeal Cert.KernelIdeal.Gen Idealize.ShloMosaic Idealize.ShloMosaic.TcCoe Idealize.SL.Sem
open Cert.Tally

/-- The first class whose logit attains the maximum. -/
def first (a b c d : Ideal .f32) : Fin 4 :=
  if a = peak a b c d then 0 else if b = peak a b c d then 1 else if c = peak a b c d then 2 else 3

/-- The predicted class of a sample. -/
def choice (lg : FVec Ideal S1048576x4 .f32) (n : Fin 1048576) : Fin 4 :=
  first (lg (ix2 n 0)) (lg (ix2 n 1)) (lg (ix2 n 2)) (lg (ix2 n 3))

/-- One when the sample's label is `g` and its predicted class `p`. -/
def hit (lg : FVec Ideal S1048576x4 .f32) (gt : IVec S1048576 32) (g p : Fin 4) (n : Fin 1048576) : ℕ :=
  if gt (ix1 n) = BitVec.ofNat 32 g.val ∧ choice lg n = p then 1 else 0

/-- The sample's cost when its label is `g`. -/
def share (lg : FVec Ideal S1048576x4 .f32) (gt : IVec S1048576 32) (g : Fin 4) (n : Fin 1048576) : EReal :=
  if gt (ix1 n) = BitVec.ofNat 32 g.val then cost (gt (ix1 n)) (lg (ix2 n 0)) (lg (ix2 n 1)) (lg (ix2 n 2)) (lg (ix2 n 3)) else 0

/-- A comparison for equality, as a choice. -/
theorem select_eq {α : Type} (x y : BitVec 32) (a b : α) : Scalar.select (IntOp.cmpi .eq x y) a b = if x = y then a else b := by
  unfold Scalar.select IntOp.cmpi
  by_cases h : x = y
  · subst h
    simp
  · have e : (x == y) = false := beq_eq_false_iff_ne.2 h
    simp only [e, h, if_false]
    rfl

/-- The ticket of a sample, masked by its label, packs the sample's hits. -/
theorem ticket_eq (lab : BitVec 32) (g : Fin 4) (a b c d : Ideal .f32) :
    (if lab = BitVec.ofNat 32 g.val then ticket a b c d else 0#32)
      = BitVec.ofNat 32 (pack fun p => if lab = BitVec.ofNat 32 g.val ∧ first a b c d = p then 1 else 0) := by
  by_cases h : lab = BitVec.ofNat 32 g.val
  · simp only [h, true_and, if_true]
    unfold ticket first
    split_ifs <;> rfl
  · simp only [h, false_and, if_false]
    rfl

variable (m : (ℓ : Loc nD τ sig) → Buf (Elt Ideal) ℓ)

/-- The logits as the launch finds them. -/
abbrev logits (c : Dev nD) : FVec Ideal S1048576x4 .f32 := m ((c.tc : Thread nD τ).loc main_arg0)
/-- The labels as the launch finds them. -/
abbrev labels (c : Dev nD) : IVec S1048576 32 := m ((c.tc : Thread nD τ).loc main_arg1)
/-- The old confusion matrix as the launch finds it. -/
abbrev old (c : Dev nD) : FVec Ideal S4x4 .f32 := m ((c.tc : Thread nD τ).loc main_arg2)

/-- One block adds to a count word its sample's hits. -/
theorem addTicket_block (c : Dev nD) (t : Fin cfg0.N) (ht : t.val < 8) (z : Vec Ideal S4x1024x128 .i32) (g : Fin 4) (r : Fin 1024) (l : Fin 128) :
    addTicket (iblk m c 0 t) (iblk m c 1 t) z (ix3 g r l)
      = z (ix3 g r l) + BitVec.ofNat 32 (pack fun p => hit (logits m c) (labels m c) g p (place t.val ht r l)) := by
  unfold addTicket
  show z (ix3 g r l) + Scalar.select (IntOp.cmpi .eq ((iblk m c 1 t : Vec Ideal S1024x128 .i32) (ix2 r l)) (BitVec.ofNat 32 g.val))
    (ticket ((iblk m c 0 t : Vec Ideal S4x1024x128 .f32) (ix3 0 r l)) ((iblk m c 0 t : Vec Ideal S4x1024x128 .f32) (ix3 1 r l))
      ((iblk m c 0 t : Vec Ideal S4x1024x128 .f32) (ix3 2 r l)) ((iblk m c 0 t : Vec Ideal S4x1024x128 .f32) (ix3 3 r l))) 0#32 = _
  rw [logits_block m c t ht, logits_block m c t ht, logits_block m c t ht, logits_block m c t ht, labels_block m c t ht, select_eq, ticket_eq]
  rfl

/-- One block adds to a loss word its sample's share. -/
theorem addCost_block (c : Dev nD) (t : Fin cfg0.N) (ht : t.val < 8) (z : Vec Ideal S4x1024x128 .f32) (g : Fin 4) (r : Fin 1024) (l : Fin 128) :
    addCost (iblk m c 0 t) (iblk m c 1 t) z (ix3 g r l)
      = z (ix3 g r l) + share (logits m c) (labels m c) g (place t.val ht r l) := by
  unfold addCost
  show z (ix3 g r l) + Scalar.select (IntOp.cmpi .eq ((iblk m c 1 t : Vec Ideal S1024x128 .i32) (ix2 r l)) (BitVec.ofNat 32 g.val))
    (cost ((iblk m c 1 t : Vec Ideal S1024x128 .i32) (ix2 r l)) ((iblk m c 0 t : Vec Ideal S4x1024x128 .f32) (ix3 0 r l)) ((iblk m c 0 t : Vec Ideal S4x1024x128 .f32) (ix3 1 r l))
      ((iblk m c 0 t : Vec Ideal S4x1024x128 .f32) (ix3 2 r l)) ((iblk m c 0 t : Vec Ideal S4x1024x128 .f32) (ix3 3 r l))) (0 : EReal) = _
  rw [logits_block m c t ht, logits_block m c t ht, logits_block m c t ht, logits_block m c t ht, labels_block m c t ht, select_eq]
  rfl

/-- A grid point up to the `n`th is one of the eight. -/
theorem N_le {n : ℕ} (h : n < cfg0.N) {t : ℕ} (ht : t < n + 1) : t < 8 := by
  have : cfg0.N = 8 := N_0
  omega

/-- The count word after a point packs the hits of the blocks so far. -/
theorem countAfter_eq (c : Dev nD) (g : Fin 4) (r : Fin 1024) (l : Fin 128) : ∀ (n : ℕ) (h : n < cfg0.N),
    countAfter m c n h (ix3 g r l)
      = BitVec.ofNat 32 (pack fun p => ∑ t : Fin (n + 1), hit (logits m c) (labels m c) g p (place t.val (N_le h t.isLt) r l))
  | 0, h => by
    rw [countAfter, addTicket_block m c _ (by dsimp only; omega)]
    show 0#32 + _ = _
    rw [BitVec.zero_add]
    refine congrArg (fun q => BitVec.ofNat 32 (pack q)) (funext fun p => ?_)
    rw [Fin.sum_univ_one]
    rfl
  | n + 1, h => by
    rw [countAfter, addTicket_block m c _ (N_le h (Nat.lt_succ_self _)), countAfter_eq c g r l n (Nat.lt_of_succ_lt h), ← BitVec.ofNat_add, ← pack_add]
    refine congrArg (fun q => BitVec.ofNat 32 (pack q)) (funext fun p => ?_)
    rw [Fin.sum_univ_castSucc (n := n + 1)]
    rfl

/-- The loss word after a point sums the shares of the blocks so far. -/
theorem lossAfter_eq (c : Dev nD) (g : Fin 4) (r : Fin 1024) (l : Fin 128) : ∀ (n : ℕ) (h : n < cfg0.N),
    lossAfter m c n h (ix3 g r l)
      = ∑ t : Fin (n + 1), share (logits m c) (labels m c) g (place t.val (N_le h t.isLt) r l)
  | 0, h => by
    rw [lossAfter, addCost_block m c _ (by dsimp only; omega), Fin.sum_univ_one]
    have e0 : (k0_pay55 (F := Ideal)) (ix3 g r l) = (0 : EReal) := by
      simp only [k0_pay55]
      pointwise
    rw [e0]
    exact zero_add _
  | n + 1, h => by
    rw [lossAfter, addCost_block m c _ (N_le h (Nat.lt_succ_self _)), lossAfter_eq c g r l n (Nat.lt_of_succ_lt h)]
    rw [Fin.sum_univ_castSucc (n := n + 1)]
    rfl

/-- A hit counts at most one. -/
theorem hit_le (lg : FVec Ideal S1048576x4 .f32) (gt : IVec S1048576 32) (g p : Fin 4) (n : Fin 1048576) : hit lg gt g p n ≤ 1 := by
  unfold hit; split_ifs <;> omega

/-- The number of samples labelled `g` and predicted `p`, as the two programs sum it. -/
def hits (lg : FVec Ideal S1048576x4 .f32) (gt : IVec S1048576 32) (g p : Fin 4) : EReal :=
  ∑ n : Fin 1048576, ((hit lg gt g p n : ℝ) : EReal)

/-- The tally of a byte is the number of such samples. -/
theorem tally_eq (c : Dev nD) (g p : Fin 4) :
    tally (countAfter m c 7 seven_lt) g (BitVec.ofNat 32 (8 * p.val)) = hits (logits m c) (labels m c) g p := by
  unfold tally hits
  rw [← sum_samples]
  refine Finset.sum_congr rfl fun r _ => Finset.sum_congr rfl fun l _ => ?_
  rw [countAfter_eq, unpack _ (fun p' => (Finset.sum_le_card_nsmul _ _ 1 fun t _ => hit_le ..).trans (by simp)) p]
  exact cast_sum _

/-- A layer of the loss array sums the shares of its label. -/
theorem level_sum (c : Dev nD) (g : Fin 4) :
    level (lossAfter m c 7 seven_lt) g = ∑ n : Fin 1048576, share (logits m c) (labels m c) g n := by
  unfold level
  rw [← sum_samples]
  refine Finset.sum_congr rfl fun r _ => Finset.sum_congr rfl fun l _ => ?_
  rw [lossAfter_eq]

/-- Picking the word numbered `4 g + p` out of the flattened matrix gives its entry at `(g, p)`. -/
theorem entry_eq (c : Dev nD) (t : Fin cfg0.N) (g p : Fin 4) :
    entry (iblk m c 2 t) (BitVec.ofNat 32 (4 * g.val + p.val)) = old m c (ix2 g p) := by
  unfold entry
  simp only [Finset.univ_unique, Finset.sum_const, Finset.card_singleton, one_smul]
  simp only [select_eq, old_block]
  rw [Finset.sum_eq_single (⟨4 * g.val + p.val, by omega⟩ : Fin 16)]
  · rw [if_pos rfl]
    refine congrArg (old m c) ?_
    have e1 : (4 * g.val + p.val) / 4 = g.val := by omega
    have e2 : (4 * g.val + p.val) % 4 = p.val := by omega
    funext a
    match a with
    | ⟨0, _⟩ => exact Fin.ext e1
    | ⟨1, _⟩ => exact Fin.ext e2
  · intro x _ hx
    rw [if_neg]
    intro e
    have := congrArg BitVec.toNat e
    simp only [BitVec.toNat_ofNat] at this
    rw [Nat.mod_eq_of_lt (by omega), Nat.mod_eq_of_lt (by omega)] at this
    exact hx (Fin.ext this)
  · intro h; exact absurd (Finset.mem_univ _) h

/-- The smoothed confusion matrix, entry by entry. -/
def blended (lg : FVec Ideal S1048576x4 .f32) (gt : IVec S1048576 32) (em : FVec Ideal S4x4 .f32) (g p : Fin 4) : Ideal .f32 :=
  blend (hits lg gt g p) (em (ix2 g p))

/-- The kernel's matrix is that matrix. -/
theorem smooth_eq (c : Dev nD) : smooth (countAfter m c 7 seven_lt) (iblk m c 2 t0_7) = blended (logits m c) (labels m c) (old m c) := by
  funext g p
  unfold smooth blended
  rw [tally_eq, entry_eq]

end Cert.KernelIdeal.Val
end
-- ==== Proof.Entropy.lean ====
/- One row's cross entropy: the kernel's form and the reference's agree, and are not negative. -/
module
public import proofs.«01_k».proof.Proof.Counts
public import proofs.«01_k».proof.Proof.Argmax
@[expose] public section
noncomputable section
namespace Cert.KernelIdeal.Val
open Cert.KernelIdeal Idealize.ShloMosaic

/-- The exponential of a number less a greater real is a nonnegative real. -/
theorem exp_less (x : EReal) (r : ℝ) (h : x ≤ (r : EReal)) : ∃ t : ℝ, 0 ≤ t ∧ Ideal.exp (x - (r : EReal)) = (t : EReal) := by
  induction x using EReal.rec with
  | bot => exact ⟨0, le_rfl, by rw [EReal.bot_sub]; rfl⟩
  | coe y => exact ⟨Real.exp (y - r), (Real.exp_pos _).le, by rw [← EReal.coe_sub]; rfl⟩
  | top => exact absurd h (not_le.2 (EReal.coe_lt_top r))

/-- The exponential of a real less itself is one. -/
theorem exp_self (r : ℝ) : Ideal.exp ((r : EReal) - (r : EReal)) = ((1 : ℝ) : EReal) := by
  rw [← EReal.coe_sub, sub_self, Ideal.exp_coe, Real.exp_zero]

/-- The sum of a row's exponentials, shifted by the row's maximum, is a real that is at least one. -/
theorem exp_sum (a b c d : EReal) (r : ℝ) (h : max (max a b) (max c d) = (r : EReal)) :
    ∃ e : ℝ, 1 ≤ e ∧ Ideal.exp (a - (r : EReal)) + Ideal.exp (b - (r : EReal)) + Ideal.exp (c - (r : EReal)) + Ideal.exp (d - (r : EReal)) = (e : EReal) := by
  have ha : a ≤ (r : EReal) := h ▸ (le_max_left a b).trans (le_max_left _ _)
  have hb : b ≤ (r : EReal) := h ▸ (le_max_right a b).trans (le_max_left _ _)
  have hc : c ≤ (r : EReal) := h ▸ (le_max_left c d).trans (le_max_right _ _)
  have hd : d ≤ (r : EReal) := h ▸ (le_max_right c d).trans (le_max_right _ _)
  obtain ⟨ta, pa, ea⟩ := exp_less a r ha
  obtain ⟨tb, pb, eb⟩ := exp_less b r hb
  obtain ⟨tc, pc, ec⟩ := exp_less c r hc
  obtain ⟨td, pd, ed⟩ := exp_less d r hd
  refine ⟨ta + tb + tc + td, ?_, by rw [ea, eb, ec, ed]; norm_cast⟩
  have key : ∀ (x : EReal) (t : ℝ), x = (r : EReal) → Ideal.exp (x - (r : EReal)) = (t : EReal) → t = 1 := by
    intro x t hx ht
    rw [hx, exp_self] at ht
    exact (EReal.coe_eq_coe_iff.1 ht).symm
  rcases max_choice (max a b) (max c d) with k | k <;> rw [k] at h
  · rcases max_choice a b with l | l <;> rw [l] at h
    · have := key a ta h ea; linarith
    · have := key b tb h eb; linarith
  · rcases max_choice c d with l | l <;> rw [l] at h
    · have := key c tc h ec; linarith
    · have := key d td h ed; linarith

/-- A real more a nonnegative real, less a number at most the first, two ways; neither is negative. -/
theorem cost_forms (x : EReal) (r L : ℝ) (h : x ≤ (r : EReal)) (hL : 0 ≤ L) :
    (r : EReal) + (L : EReal) - x = -(x - (r : EReal) - (L : EReal)) ∧ 0 ≤ (r : EReal) + (L : EReal) - x := by
  induction x using EReal.rec with
  | bot =>
    have e : (r : EReal) + (L : EReal) - ⊥ = ⊤ := by rw [← EReal.coe_add]; exact EReal.coe_sub_bot _
    rw [e, EReal.bot_sub, EReal.bot_sub, EReal.neg_bot]
    exact ⟨rfl, le_top⟩
  | coe y =>
    have hy : y ≤ r := EReal.coe_le_coe_iff.1 h
    constructor
    · norm_cast
      ring
    · have : (0 : ℝ) ≤ r + L - y := by linarith
      exact_mod_cast this
  | top => exact absurd h (not_le.2 (EReal.coe_lt_top r))

/-- The logit that the label of class `g` names is the row's `g`th. -/
theorem named_class (f : Fin 4 → EReal) (g : Fin 4) : named (BitVec.ofNat 32 g.val) (f 0) (f 1) (f 2) (f 3) = f g := by
  unfold named
  simp only [select_eq]
  fin_cases g <;> rfl

/-- On a row of finite maximum with label `g` the kernel's cost is the negated log-probability of the label, and is not negative. -/
theorem cost_class (f : Fin 4 → EReal) (g : Fin 4) (hb : ⊥ < max (max (f 0) (f 1)) (max (f 2) (f 3))) (ht : max (max (f 0) (f 1)) (max (f 2) (f 3)) < ⊤) :
    cost (BitVec.ofNat 32 g.val) (f 0) (f 1) (f 2) (f 3)
        = -(f g - max (max (f 0) (f 1)) (max (f 2) (f 3)) - Ideal.log (Ideal.exp (f 0 - max (max (f 0) (f 1)) (max (f 2) (f 3))) + Ideal.exp (f 1 - max (max (f 0) (f 1)) (max (f 2) (f 3))) + Ideal.exp (f 2 - max (max (f 0) (f 1)) (max (f 2) (f 3))) + Ideal.exp (f 3 - max (max (f 0) (f 1)) (max (f 2) (f 3)))))
      ∧ (0 : EReal) ≤ cost (BitVec.ofNat 32 g.val) (f 0) (f 1) (f 2) (f 3) := by
  obtain ⟨r, hr⟩ : ∃ r : ℝ, max (max (f 0) (f 1)) (max (f 2) (f 3)) = (r : EReal) := ⟨_, (EReal.coe_toReal ht.ne hb.ne').symm⟩
  obtain ⟨e, he, hs⟩ := exp_sum (f 0) (f 1) (f 2) (f 3) r hr
  have hg : f g ≤ (r : EReal) := by
    rw [← hr]
    fin_cases g
    · exact (le_max_left _ _).trans (le_max_left _ _)
    · exact (le_max_right _ _).trans (le_max_left _ _)
    · exact (le_max_left _ _).trans (le_max_right _ _)
    · exact (le_max_right _ _).trans (le_max_right _ _)
  have hl : Ideal.log (e : EReal) = (Real.log e : EReal) := by
    rw [Ideal.log_coe, if_neg (by linarith)]
  have hc : cost (BitVec.ofNat 32 g.val) (f 0) (f 1) (f 2) (f 3) = (r : EReal) + (Real.log e : EReal) - f g := by
    unfold cost peak
    rw [named_class f g]
    show max (max (f 0) (f 1)) (max (f 2) (f 3)) + Ideal.log (Ideal.exp (f 0 - max (max (f 0) (f 1)) (max (f 2) (f 3))) + Ideal.exp (f 1 - max (max (f 0) (f 1)) (max (f 2) (f 3))) + Ideal.exp (f 2 - max (max (f 0) (f 1)) (max (f 2) (f 3))) + Ideal.exp (f 3 - max (max (f 0) (f 1)) (max (f 2) (f 3)))) - f g = _
    rw [hr, hs, hl]
  rw [hc, hr, hs, hl]
  exact cost_forms (f g) r (Real.log e) hg (Real.log_nonneg he)

/-- The place that beats every place of a row is the first that attains the row's maximum. -/
theorem first_eq (f : Fin 4 → EReal) (k : Fin 4)
    (h : ∀ k' : Fin 4, Cert.ReferenceIdeal.Value.Beats (f k, BitVec.ofNat 32 k.val) (f k', BitVec.ofNat 32 k'.val)) :
    first (f 0) (f 1) (f 2) (f 3) = k := by
  have hle : ∀ k', f k' ≤ f k := fun k' => by
    rcases h k' with l | ⟨l, _⟩
    · exact le_of_lt l
    · exact le_of_eq l
  have hlt : ∀ k' : Fin 4, k' < k → f k' < f k := fun k' hk => by
    rcases h k' with l | ⟨_, l⟩
    · exact l
    · exfalso
      have : ∀ a b : Fin 4, a < b → ¬ (BitVec.ofNat 32 b.val).toInt ≤ (BitVec.ofNat 32 a.val).toInt := by decide
      exact this k' k hk l
  have hp : max (max (f 0) (f 1)) (max (f 2) (f 3)) = f k := by
    apply le_antisymm
    · exact max_le (max_le (hle 0) (hle 1)) (max_le (hle 2) (hle 3))
    · fin_cases k
      · exact (le_max_left _ _).trans (le_max_left _ _)
      · exact (le_max_right _ _).trans (le_max_left _ _)
      · exact (le_max_left _ _).trans (le_max_right _ _)
      · exact (le_max_right _ _).trans (le_max_right _ _)
  unfold first peak
  simp only [hp]
  clear hp hle h
  fin_cases k
  · exact if_pos rfl
  · rw [if_neg (hlt 0 (by decide)).ne]; exact if_pos rfl
  · rw [if_neg (hlt 0 (by decide)).ne, if_neg (hlt 1 (by decide)).ne]; exact if_pos rfl
  · rw [if_neg (hlt 0 (by decide)).ne, if_neg (hlt 1 (by decide)).ne, if_neg (hlt 2 (by decide)).ne]; rfl

end Cert.KernelIdeal.Val
end
-- ==== Proof.Equation.lean ====
/- The kernel's result is the reference's. -/
module
public import proofs.«01_k».proof.Proof.Entropy
public import proofs.«01_k».proof.Proof.Stages
@[expose] public section
noncomputable section
namespace Cert.KernelIdeal.Val
open Cert.KernelIdeal Cert.KernelIdeal.Gen Idealize.ShloMosaic Idealize.ShloMosaic.TcCoe Idealize.SL.Sem
open Cert.ReferenceIdeal.Value (top confusion predicted smoothed mistakes classWeights rowWeights crossEntropy meanLoss)

variable (lg : FVec Ideal S1048576x4 .f32) (gt : IVec S1048576 32) (em : FVec Ideal S4x4 .f32)

/-- Distinct classes have distinct words. -/
theorem word_inj : ∀ a b : Fin 4, BitVec.ofNat 32 a.val = BitVec.ofNat 32 b.val → a = b := by decide

/-- A row with a number above -∞ is predicted in the class of the kernel's choice. -/
theorem predicted_choice (n : Fin 1048576) (h : ⊥ < top lg n) : predicted (F := Ideal) lg (ix1 n) = BitVec.ofNat 32 (choice lg n).val := by
  have hn : ∃ k : Fin 4, ⊥ < (lg (ix2 n k) : EReal) := by
    unfold top at h
    rcases lt_max_iff.1 h with h | h <;> rcases lt_max_iff.1 h with h | h
    exacts [⟨0, h⟩, ⟨1, h⟩, ⟨2, h⟩, ⟨3, h⟩]
  obtain ⟨k, hk, hb⟩ := Cert.ReferenceIdeal.Value.predicted_spec lg n hn
  rw [hk]
  exact congrArg (fun a : Fin 4 => BitVec.ofNat 32 a.val) (first_eq (fun k => lg (ix2 n k)) k hb).symm

/-- The reference's smoothed matrix is the kernel's. -/
theorem smoothed_eq (lab : Fin 1048576 → Fin 4) (hl : ∀ n, gt (ix1 n) = BitVec.ofNat 32 (lab n).val) (ht : ∀ n, ⊥ < top lg n) (g p : Fin 4) :
    smoothed (F := Ideal) (confusion (F := Ideal) lg gt) em (ix2 g p) = blended lg gt em g p := by
  rw [Cert.ReferenceIdeal.Value.smoothed_apply,
    Cert.ReferenceIdeal.Value.confusion_apply lg gt lab (choice lg) hl (fun n => predicted_choice lg n (ht n)) g p]
  unfold blended blend hits hit
  have e : ∀ n, (gt (ix1 n) = BitVec.ofNat 32 g.val ∧ choice lg n = p) ↔ (lab n = g ∧ choice lg n = p) := fun n => by
    rw [hl n]
    exact and_congr_left fun _ => ⟨word_inj _ _, fun h => by rw [h]⟩
  simp only [e]

/-- The weight of a class. -/
def classWeight (e : Fin 4 → Fin 4 → Ideal .f32) (g : Fin 4) : EReal :=
  weight (worst (miss (e 0 0) (e 0 1) (e 0 2) (e 0 3) (e 0 0)) (miss (e 1 0) (e 1 1) (e 1 2) (e 1 3) (e 1 1))
    (miss (e 2 0) (e 2 1) (e 2 2) (e 2 3) (e 2 2)) (miss (e 3 0) (e 3 1) (e 3 2) (e 3 3) (e 3 3)))
    (miss (e g 0) (e g 1) (e g 2) (e g 3) (e g g))

/-- The reference's class weights are the kernel's. -/
theorem classWeights_eq (s : FVec Ideal S4x4 .f32) (e : Fin 4 → Fin 4 → Ideal .f32) (h : ∀ g p, s (ix2 g p) = e g p) (g : Fin 4) :
    classWeights (F := Ideal) (mistakes (F := Ideal) s) (ix1 g) = classWeight e g := by
  rw [Cert.ReferenceIdeal.Value.classWeights_apply]
  simp only [Cert.ReferenceIdeal.Value.mistakes_apply, h]
  rfl

/-- The kernel's total, as the sum over the classes of weight times shares. -/
theorem score_eq (e : Fin 4 → Fin 4 → Ideal .f32) (P : Vec Ideal S4x1024x128 .f32) (f : Fin 4 → EReal) (h : ∀ g, level P g = f g) :
    score e P = ∑ g : Fin 4, classWeight e g * f g := by
  rw [Fin.sum_univ_four, ← h, ← h, ← h, ← h]
  rfl

/-- A weighted sum of one class's shares: the weighted shares' sum, all being nonnegative. -/
theorem exchange (W : Fin 4 → EReal) (f : Fin 4 → Fin 1048576 → EReal) (hf : ∀ g n, 0 ≤ f g n) :
    ∑ g : Fin 4, W g * ∑ n : Fin 1048576, f g n = ∑ n : Fin 1048576, ∑ g : Fin 4, W g * f g n := by
  rw [Finset.sum_comm]
  exact Finset.sum_congr rfl fun g _ => Cert.Tally.mul_sum_of_nonneg _ _ _ fun n _ => hf g n

/-- The shares of one sample, weighted: its cost by the weight of its label. -/
theorem share_sum (W : Fin 4 → EReal) (n : Fin 1048576) (k : Fin 4) (h : gt (ix1 n) = BitVec.ofNat 32 k.val) :
    ∑ g : Fin 4, W g * share lg gt g n = cost (BitVec.ofNat 32 k.val) (lg (ix2 n 0)) (lg (ix2 n 1)) (lg (ix2 n 2)) (lg (ix2 n 3)) * W k := by
  rw [Finset.sum_eq_single k]
  · unfold share
    rw [if_pos h, h]
    exact mul_comm _ _
  · intro g _ hg
    unfold share
    rw [if_neg (fun h' => hg (word_inj _ _ (h'.symm.trans h))), mul_zero]
  · exact fun h => absurd (Finset.mem_univ k) h

/-- A sample's cost by the kernel is the reference's cross entropy, and is not negative. -/
theorem cost_eq (n : Fin 1048576) (k : Fin 4) (h : gt (ix1 n) = BitVec.ofNat 32 k.val) (hb : ⊥ < top lg n) (ht : top lg n < ⊤) :
    cost (BitVec.ofNat 32 k.val) (lg (ix2 n 0)) (lg (ix2 n 1)) (lg (ix2 n 2)) (lg (ix2 n 3)) = crossEntropy (F := Ideal) lg gt (ix1 n)
      ∧ (0 : EReal) ≤ cost (BitVec.ofNat 32 k.val) (lg (ix2 n 0)) (lg (ix2 n 1)) (lg (ix2 n 2)) (lg (ix2 n 3)) := by
  rw [Cert.ReferenceIdeal.Value.crossEntropy_apply lg gt n k h, Cert.ReferenceIdeal.Value.logProbs_apply]
  exact cost_class (fun k => lg (ix2 n k)) k hb ht

/-- The sum of the weighted shares is the sum of the weighted cross entropies. -/
theorem sums_eq (lab : Fin 1048576 → Fin 4) (hl : ∀ n, gt (ix1 n) = BitVec.ofNat 32 (lab n).val) (hb : ∀ n, ⊥ < top lg n) (ht : ∀ n, top lg n < ⊤) :
    ∑ g : Fin 4, classWeight (blended lg gt em) g * ∑ n : Fin 1048576, share lg gt g n
      = ∑ n : Fin 1048576, (crossEntropy (F := Ideal) lg gt (ix1 n) : EReal)
        * (rowWeights (F := Ideal) (classWeights (F := Ideal) (mistakes (F := Ideal) (smoothed (F := Ideal) (confusion (F := Ideal) lg gt) em))) gt (ix1 n) : EReal) := by
  rw [exchange]
  · refine Finset.sum_congr rfl fun n _ => ?_
    rw [share_sum lg gt _ n (lab n) (hl n), (cost_eq lg gt n (lab n) (hl n) (hb n) (ht n)).1,
      Cert.ReferenceIdeal.Value.rowWeights_apply _ gt n (lab n) (hl n), classWeights_eq _ _ (smoothed_eq lg gt em lab hl hb)]
  · intro g n
    unfold share
    by_cases h : gt (ix1 n) = BitVec.ofNat 32 g.val
    · rw [if_pos h, h]
      exact (cost_eq lg gt n g h (hb n) (ht n)).2
    · rw [if_neg h]

/-- The kernel's result is the reference's mean loss, on rows of finite maximum with labels in range. -/
theorem result_eq (m : (ℓ : Loc nD τ sig) → Buf (Elt Ideal) ℓ) (c : Dev nD)
    (h : ∀ n : Fin 1048576, (⊥ < top (logits m c) n ∧ top (logits m c) n < ⊤) ∧ ∃ g : Fin 4, labels m c (ix1 n) = BitVec.ofNat 32 g.val) :
    result m c = meanLoss (F := Ideal) (logits m c) (labels m c) (old m c) := by
  choose lab hl using fun n => (h n).2
  funext j
  rw [Cert.ReferenceIdeal.Value.meanLoss_apply,
    ← sums_eq (logits m c) (labels m c) (old m c) lab hl (fun n => (h n).1.1) (fun n => (h n).1.2)]
  unfold result total
  rw [smooth_eq, score_eq _ _ _ (level_sum m c)]

end Cert.KernelIdeal.Val
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_rows_bounded_labels_in_range
public import proofs.«01_k».proof.Proof.RefRun
public import proofs.«01_k».proof.Proof.Pre
public import proofs.«01_k».proof.Proof.Equation
public import Idealize.ShloMosaic.Adequacy
public import Idealize.ShloMosaic.Init

@[expose] public section

noncomputable section

namespace Cert.Proof

open Idealize.ShloMosaic Idealize.SL.Sem Cert.Kernel

/-- On rows of finite greatest logit with labels in range both programs end with the same loss: the kernel's result. -/
theorem algebraic : algebraic_KernelIdeal_ReferenceIdeal_pre_rows_bounded_labels_in_range (hKernelIdeal := Cert.KernelIdeal.Gen.facts)
    (hReferenceIdeal := Cert.ReferenceIdeal.Gen.facts) (hPre_rows_bounded_labels_in_range := Cert.Pre_rows_bounded_labels_in_range.Gen.facts) := by
  intro m g m' g' hp ha
  refine ⟨fun c => Cert.KernelIdeal.Val.result m c, Cert.KernelIdeal.Val.run m g, ?_⟩
  refine (θ_run Cert.ReferenceIdeal.defs _ _).mono (fun r h c => ?_) (Cert.ReferenceIdeal.Value.run m' g')
  obtain ⟨h0, h1⟩ := h c
  obtain ⟨a0, a1, a2⟩ := ha c
  refine ⟨h0.trans ?_, h1⟩
  rw [a0, a1, a2]
  exact (Cert.KernelIdeal.Val.result_eq m c fun n => Cert.Pre_rows_bounded_labels_in_range.spec _ _ _ (hp c) n).symm

/-- The five claims: the three programs run and end quiescent, the idealization rewrote nothing, and on rows of finite
    greatest logit with labels in range the kernel's loss is the reference's. -/
theorem claim : Cert.Claim :=
  ⟨Cert.Kernel.Gen.facts, Cert.KernelIdeal.Gen.facts, Cert.ReferenceIdeal.Gen.facts, Cert.Pre_rows_bounded_labels_in_range.Gen.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Value.frame m ρ,
    fun m ρ _ => Cert.ReferenceIdeal.Value.frame m ρ,
    trivial,
    algebraic⟩

end Cert.Proof

end
